-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_z_finite [hPre_z_finite : Cert.Pre_z_finite.Facts] (m : (ℓ : Loc Cert.KernelIdeal.nD Cert.KernelIdeal.τ Cert.KernelIdeal.sig) → Buf (Elt Ideal) ℓ) : Prop :=
  ∀ c : Dev Cert.KernelIdeal.nD,
    (Cert.Pre_z_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_z_finite [hPre_z_finite : Cert.Pre_z_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_z_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_z_finite [hKernelIdeal : Cert.KernelIdeal.Facts] [hPre_z_finite : Cert.Pre_z_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_z_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_z_finite [hReferenceIdeal : Cert.ReferenceIdeal.Facts] [hPre_z_finite : Cert.Pre_z_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_z_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_z_finite [hKernelIdeal : Cert.KernelIdeal.Facts] [hReferenceIdeal : Cert.ReferenceIdeal.Facts] [hPre_z_finite : Cert.Pre_z_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_z_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_z_finite : Cert.Pre_z_finite.Facts),
    quiescent_Kernel (hKernel := hKernel)
    ∧ quiescent_KernelIdeal (hKernelIdeal := hKernelIdeal)
    ∧ quiescent_KernelIdeal_pre_z_finite (hKernelIdeal := hKernelIdeal) (hPre_z_finite := hPre_z_finite)
    ∧ quiescent_ReferenceIdeal (hReferenceIdeal := hReferenceIdeal)
    ∧ quiescent_ReferenceIdeal_pre_z_finite (hReferenceIdeal := hReferenceIdeal) (hPre_z_finite := hPre_z_finite)
    ∧ preserves_Kernel_KernelIdeal
    ∧ algebraic_KernelIdeal_ReferenceIdeal_pre_z_finite (hKernelIdeal := hKernelIdeal) (hReferenceIdeal := hReferenceIdeal) (hPre_z_finite := hPre_z_finite)
-- ==== Pre_z_finite.lean ====
abbrev S4x256x4x32x32 : Shape := ⟨5, ![4, 256, 4, 32, 32]⟩
abbrev S1024x256 : Shape := ⟨2, ![1024, 256]⟩
abbrev S_ : Shape := ⟨0, ![]⟩

class Facts : Prop where
  bcast_S_S4x256x4x32x32 : S_.BroadcastsInDim S4x256x4x32x32 (![] : Fin 0 → Fin S4x256x4x32x32.rank)
  reducesTo_S4x256x4x32x32_S_d0_1_2_3_4 : S4x256x4x32x32.ReducesTo [0, 1, 2, 3, 4] S_
  h_S_ : 0 < S_.numel

variable [Facts]

def fn {F : FTy → Type} [FloatOps F] (main_arg0 : FVec F S4x256x4x32x32 .f32) (main_arg1 : FVec F S1024x256 .f32) : IVec S_ 1 :=
  let main_v0 : FVec F S4x256x4x32x32 .f32 := Host.absf main_arg0
  let main_cst : FVec F S_ .f32 := constant S_ .f32 0x7F800000#32
  let main_v1 : FVec F S4x256x4x32x32 .f32 := broadcastInDim S4x256x4x32x32 ![] bcast_S_S4x256x4x32x32 main_cst
  let main_v2 : IVec S4x256x4x32x32 1 := cmpf .olt main_v0 main_v1
  let main_c : IVec S_ 1 := constantI S_ 1 1#1
  let main_v3 : IVec S_ 1 := (fun x v => Host.reduce IntOp.andi x v reducesTo_S4x256x4x32x32_S_d0_1_2_3_4 h_S_) main_v2 main_c
  main_v3
-- ==== Kernel.lean ====
abbrev S4x256x4x32x32 : Shape := ⟨5, ![4, 256, 4, 32, 32]⟩
abbrev S1024x256 : Shape := ⟨2, ![1024, 256]⟩
abbrev S4x256x4096 : Shape := ⟨3, ![4, 256, 4096]⟩
abbrev S_ : Shape := ⟨0, ![]⟩
abbrev S1024 : Shape := ⟨1, ![1024]⟩
abbrev S1024x1 : Shape := ⟨2, ![1024, 1]⟩
abbrev S16x1x1024 : Shape := ⟨3, ![16, 1, 1024]⟩
abbrev S1x1 : Shape := ⟨2, ![1, 1]⟩
abbrev S1x256x1024 : Shape := ⟨3, ![1, 256, 1024]⟩
abbrev S1x1x1024 : Shape := ⟨3, ![1, 1, 1024]⟩
abbrev S2x1024x1024 : Shape := ⟨3, ![2, 1024, 1024]⟩
abbrev S1024x1024 : Shape := ⟨2, ![1024, 1024]⟩
abbrev S256x1024 : Shape := ⟨2, ![256, 1024]⟩
abbrev S1x1024x1024 : Shape := ⟨3, ![1, 1024, 1024]⟩
abbrev S1x1024 : Shape := ⟨2, ![1, 1024]⟩
abbrev S1 : Shape := ⟨1, ![1]⟩
abbrev S1x1x1 : Shape := ⟨3, ![1, 1, 1]⟩
abbrev S1x1024x1 : Shape := ⟨3, ![1, 1024, 1]⟩
abbrev S4x4x32x32 : Shape := ⟨4, ![4, 4, 32, 32]⟩

abbrev nBuf : Space → Nat
  | .hbm => 15
  | .vmem => 14
  | .smem => 3
  | _ => 0

abbrev bufTy : (tb : Table) → Fin (tcTables nBuf tb) → BufTy
  | .hbm, ⟨0, _⟩ => ⟨S4x256x4x32x32, .f32⟩
  | .hbm, ⟨1, _⟩ => ⟨S1024x256, .f32⟩
  | .hbm, ⟨2, _⟩ => ⟨S4x256x4096, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S4x256x4096, .f32⟩
  | .hbm, ⟨8, _⟩ => ⟨S16x1x1024, .i32⟩
  | .hbm, ⟨9, _⟩ => ⟨S1x1, .f32⟩
  | .hbm, ⟨10, _⟩ => ⟨S1x1, .f32⟩
  | .hbm, ⟨11, _⟩ => ⟨S4x256x4x32x32, .f32⟩
  | .hbm, ⟨12, _⟩ => ⟨S4x4x32x32, .i32⟩
  | .hbm, ⟨13, _⟩ => ⟨S_, .f32⟩
  | .hbm, ⟨14, _⟩ => ⟨S_, .f32⟩
  | .local _ .vmem, ⟨0, _⟩ => ⟨S1024x256, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1024x1, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .i32⟩
  | .local _ .vmem, ⟨9, _⟩ => ⟨S1x1x1024, .i32⟩
  | .local _ .vmem, ⟨10, _⟩ => ⟨S1024x1, .f32⟩
  | .local _ .vmem, ⟨11, _⟩ => ⟨S1024x256, .bf16⟩
  | .local _ .vmem, ⟨12, _⟩ => ⟨S2x1024x1024, .f32⟩
  | .local _ .vmem, ⟨13, _⟩ => ⟨S1024x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S4x256x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg6_0 : Ref sig .tc := ⟨.smem, 0, rfl⟩
abbrev cc0_stg7_0 : Ref sig .tc := ⟨.smem, 1, rfl⟩
abbrev cc0_scratch1 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c2_i32 : BitVec 32 := 2#32
  let c0_i32_5 : BitVec 32 := 0#32
  let v7 : BitVec 1 := Scalar.cmpi .eq c2_i32 c0_i32_5
  let c1_i32 : BitVec 32 := 1#32
  let v8 : BitVec 32 := Scalar.select v7 c1_i32 c2_i32
  let v9 : BitVec 32 := Scalar.remsi arg0 v8
  let c0_i32_7 : BitVec 32 := 0#32
  let v11 : BitVec 1 := Scalar.cmpi .slt v9 c0_i32_7
  let c0_i32_8 : BitVec 32 := 0#32
  let v12 : BitVec 1 := Scalar.cmpi .slt v8 c0_i32_8
  let v13 : BitVec 1 := Scalar.xori v11 v12
  let c0_i32_6 : BitVec 32 := 0#32
  let v10 : BitVec 1 := Scalar.cmpi .ne v9 c0_i32_6
  let v14 : BitVec 1 := Scalar.andi v13 v10
  let v15 : BitVec 32 := Scalar.addi v9 v8
  let v16 : BitVec 32 := Scalar.select v14 v15 v9
  let v17 : Index := Scalar.indexCast v16
  let c0_9 : Index := 0#32
  let c0_10 : Index := 0#32
  ![v17.toNat, 0, 0]
def k0_off2 (i : grid0.Coords) : Fin 3 → Nat :=
  let arg0 : BitVec 32 := BitVec.ofNat 32 (i 0).val
  let c1_i32_43 : BitVec 32 := 1#32
  let v73 : BitVec 32 := Scalar.addi arg0 c1_i32_43
  let c2_i32_44 : BitVec 32 := 2#32
  let c0_i32_45 : BitVec 32 := 0#32
  let v74 : BitVec 1 := Scalar.cmpi .eq c2_i32_44 c0_i32_45
  let c1_i32_46 : BitVec 32 := 1#32
  let v75 : BitVec 32 := Scalar.select v74 c1_i32_46 c2_i32_44
  let v76 : BitVec 32 := Scalar.remsi v73 v75
  let c0_i32_48 : BitVec 32 := 0#32
  let v78 : BitVec 1 := Scalar.cmpi .slt v76 c0_i32_48
  let c0_i32_49 : BitVec 32 := 0#32
  let v79 : BitVec 1 := Scalar.cmpi .slt v75 c0_i32_49
  let v80 : BitVec 1 := Scalar.xori v78 v79
  let c0_i32_47 : BitVec 32 := 0#32
  let v77 : BitVec 1 := Scalar.cmpi .ne v76 c0_i32_47
  let v81 : BitVec 1 := Scalar.andi v80 v77
  let v82 : BitVec 32 := Scalar.addi v76 v75
  let v83 : BitVec 32 := Scalar.select v81 v82 v76
  let v84 : Index := Scalar.indexCast v83
  let c0_50 : Index := 0#32
  let c0_51 : Index := 0#32
  ![v84.toNat, 0, 0]
def k0_cond2 (i : grid0.Coords) : BitVec 1 :=
  let arg0 : BitVec 32 := BitVec.ofNat 32 (i 0).val
  let c15_i32 : BitVec 32 := 15#32
  let v88 : BitVec 1 := Scalar.cmpi .eq arg0 c15_i32
  let v89 : BitVec 32 := Scalar.extui v88
  let c0_i32_52 : BitVec 32 := 0#32
  let v90 : BitVec 1 := Scalar.cmpi .ne v89 c0_i32_52
  v90

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x256x4x32x32 : Shape := ⟨5, ![4, 256, 4, 32, 32]⟩
abbrev S1024x256 : Shape := ⟨2, ![1024, 256]⟩
abbrev S4x4x32x32x256 : Shape := ⟨5, ![4, 4, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S1 : Shape := ⟨1, ![1]⟩
abbrev S1x1 : Shape := ⟨2, ![1, 1]⟩
abbrev S4x4x32x32 : Shape := ⟨4, ![4, 4, 32, 32]⟩

abbrev nBuf : Space → Nat
  | .hbm => 82
  | .vmem => 0
  | .smem => 0
  | _ => 0

abbrev bufTy : (tb : Table) → Fin (tcTables nBuf tb) → BufTy
  | .hbm, ⟨0, _⟩ => ⟨S4x256x4x32x32, .f32⟩
  | .hbm, ⟨1, _⟩ => ⟨S1024x256, .f32⟩
  | .hbm, ⟨2, _⟩ => ⟨S4x4x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S256x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x256, .f32⟩
  | .hbm, ⟨45, _⟩ => ⟨S16384x256, .i1⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16384x256, .f32⟩
  | .hbm, ⟨58, _⟩ => ⟨S16384x256, .f32⟩
  | .hbm, ⟨59, _⟩ => ⟨S4x4x32x32x256, .f32⟩
  | .hbm, ⟨60, _⟩ => ⟨S4x256x4x32x32, .f32⟩
  | .hbm, ⟨61, _⟩ => ⟨S4x4x32x32, .i32⟩
  | .hbm, ⟨62, _⟩ => ⟨S16384x1, .i32⟩
  | .hbm, ⟨63, _⟩ => ⟨S1x1024, .i32⟩
  | .hbm, ⟨64, _⟩ => ⟨S16384x1024, .i32⟩
  | .hbm, ⟨65, _⟩ => ⟨S16384x1024, .i32⟩
  | .hbm, ⟨66, _⟩ => ⟨S16384x1024, .i1⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S4x256x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_cst_6 : Ref sig .tc := ⟨.hbm, 70, rfl⟩
abbrev main_v30 : Ref sig .tc := ⟨.hbm, 71, rfl⟩
abbrev main_v31 : Ref sig .tc := ⟨.hbm, 72, rfl⟩
abbrev main_cst_7 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_8 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩

abbrev nD : Nat := 1
abbrev τ : Topo := Topo.v7x

variable {F : FTy → Type} [FloatOps F]
-- ==== Proof.Step.lean ====
module

public import proofs.«01_k».proof.Proof.Gen.KernelIdeal.Frame
public import proofs.«01_k».proof.Proof.Gen.KernelIdeal.Skeleton
public import Idealize.ShloMosaic.Lib.VecWindow

@[expose] public section

noncomputable section

/-! # What one grid point computes

The body of the quantiser, as a function of the blocks it loads and of the five scratch buffers it carries
from point to point. -/

namespace Cert.KernelIdeal.Step

open Idealize.ShloMosaic
open Cert.KernelIdeal.Gen

variable {F : FTy → Type} [FloatOps F]

/-- The branch taken at the first grid point only: the scratch buffers are filled. -/
abbrev isFirst (i : grid0.Coords) : Prop :=
  (Scalar.cmpi .ne (Scalar.extui (Scalar.cmpi .eq (BitVec.ofNat 32 (i 0).val) 0#32)) 0#32) = 1#1
/-- The branch taken at the last grid point only: the two scalar results are stored. -/
abbrev isLast (i : grid0.Coords) : Prop := k0_cond2 i = 1#1

/-- The one element of a scalar buffer. -/
abbrev one : S1x1.Idx := Shape.Idx.first (numel1_S1x1.symm ▸ Nat.one_pos)

/-- The contents of the scratch buffers: the counts of the codes, the running loss, the narrowed codebook, the two
    slots of products, the row numbers. -/
structure Scr (F : FTy → Type) where
  /-- how often each code was chosen so far -/
  cnt : Vec F S1024x1 .f32
  /-- the sum of the squared differences so far -/
  lac : Vec F S1x1 .f32
  /-- the codebook, narrowed -/
  ebf : Vec F S1024x256 .bf16
  /-- the two slots of products of the codebook with a block of tokens -/
  mm : Vec F S2x1024x1024 .f32
  /-- the number of its row at every element -/
  iot : Vec F S1024x1024 .f32

/-- The scratch as the first point fills it, the product of the first block into slot 0. -/
def start (x0 : Vec F S1024x256 .f32) (x1 : Vec F S1x256x1024 .f32) (s : Scr F) : Scr F where
  cnt := k0_pay4
  lac := fun _ => Scalar.ofBits .f32 0x00000000#32
  ebf := k0_pay5 x0
  mm := VecWindow.put s.mm ![0, 0, 0] S1x1024x1024.size (k0_pay7 (k0_pay5 x0) x1)
  iot := k0_pay6

/-- The scratch behind the first conditional. -/
def entry (i : grid0.Coords) (x0 : Vec F S1024x256 .f32) (x1 : Vec F S1x256x1024 .f32) (s : Scr F) : Scr F :=
  open scoped Classical in if isFirst i then start x0 x1 s else s

/-- The candidates: the row number where the distance of the token is least, 1024 elsewhere. -/
def cand (i : grid0.Coords) (x1 : Vec F S1x256x1024 .f32) (x3 : Vec F S1024x1 .f32) (s : Scr F) : Vec F S1024x1024 .f32 :=
  k0_pay9 x3 x1 (VecWindow.window s.mm (k0_off1 i) S1x1024x1024.size (k0_off1_inb i)) s.iot

/-- The scratch behind the rest of the body. -/
def next (i : grid0.Coords) (x1 x2 : Vec F S1x256x1024 .f32) (x3 : Vec F S1024x1 .f32) (s : Scr F) : Scr F where
  cnt := k0_pay13 s.iot (cand i x1 x3 s) s.cnt
  lac := fun _ => k0_pay16 (k0_pay8 x1) s.iot (cand i x1 x3 s) s.ebf (s.lac one)
  ebf := s.ebf
  mm := VecWindow.put s.mm (k0_off2 i) S1x1024x1024.size (k0_pay1 s.ebf x2)
  iot := s.iot

/-- The scratch after a point. -/
def step (i : grid0.Coords) (x0 : Vec F S1024x256 .f32) (x1 x2 : Vec F S1x256x1024 .f32) (x3 : Vec F S1024x1 .f32)
    (s : Scr F) : Scr F :=
  next i x1 x2 x3 (entry i x0 x1 s)

/-- The block of quantised vectors a point stores. -/
def zqBlk (i : grid0.Coords) (x0 : Vec F S1024x256 .f32) (x1 : Vec F S1x256x1024 .f32) (x3 : Vec F S1024x1 .f32)
    (s : Scr F) : Vec F S1x256x1024 .f32 :=
  k0_pay15 (entry i x0 x1 s).iot (cand i x1 x3 (entry i x0 x1 s)) (entry i x0 x1 s).ebf

/-- The block of indices a point stores. -/
def idxBlk (i : grid0.Coords) (x0 : Vec F S1024x256 .f32) (x1 : Vec F S1x256x1024 .f32) (x3 : Vec F S1024x1 .f32)
    (s : Scr F) : Vec F S1x1x1024 .i32 :=
  k0_pay11 (cand i x1 x3 (entry i x0 x1 s))

/-- The loss, from the scratch after the last point. -/
def lossOf (s : Scr F) : Vec F S1x1 .f32 := fun _ => k0_pay3 (s.lac one)
/-- The perplexity, from the scratch after the last point. -/
def ppOf (s : Scr F) : Vec F S1x1 .f32 := fun _ => k0_pay2 s.cnt

/-- What a point leaves in a scalar result's buffer: the result at the last point, what it found at the others. -/
def atLast (i : grid0.Coords) (v d : Vec F S1x1 .f32) : Vec F S1x1 .f32 :=
  open scoped Classical in if isLast i then v else d

/-- Behind the first conditional at the first point. -/
theorem entry_first {i : grid0.Coords} (h : isFirst i) (x0 : Vec F S1024x256 .f32) (x1 : Vec F S1x256x1024 .f32) (s : Scr F) :
    entry i x0 x1 s = start x0 x1 s := if_pos h
/-- Behind the first conditional at any other point. -/
theorem entry_other {i : grid0.Coords} (h : ¬ isFirst i) (x0 : Vec F S1024x256 .f32) (x1 : Vec F S1x256x1024 .f32) (s : Scr F) :
    entry i x0 x1 s = s := if_neg h
/-- A scalar result at the last point. -/
theorem atLast_last {i : grid0.Coords} (h : isLast i) (v d : Vec F S1x1 .f32) : atLast i v d = v := if_pos h
/-- A scalar result's buffer at any other point. -/
theorem atLast_other {i : grid0.Coords} (h : ¬ isLast i) (v d : Vec F S1x1 .f32) : atLast i v d = d := if_neg h

/-- The point's number is one of sixteen. -/
theorem coord_lt (i : grid0.Coords) : (i 0).val < 16 := (i 0).isLt

/-- The slot a point reads is its number's parity. -/
theorem off1_eq (i : grid0.Coords) : k0_off1 i = ![(i 0).val % 2, 0, 0] := by
  have h := coord_lt i
  unfold k0_off1
  generalize (i 0).val = n at h ⊢
  revert n; decide +kernel

/-- The slot a point writes is the other one. -/
theorem off2_eq (i : grid0.Coords) : k0_off2 i = ![((i 0).val + 1) % 2, 0, 0] := by
  have h := coord_lt i
  unfold k0_off2
  generalize (i 0).val = n at h ⊢
  revert n; decide +kernel

/-- The first branch is taken at point 0. -/
theorem isFirst_iff (i : grid0.Coords) : isFirst i ↔ (i 0).val = 0 := by
  have h := coord_lt i
  unfold isFirst
  generalize (i 0).val = n at h ⊢
  revert n; decide +kernel

/-- The last branch is taken at point 15. -/
theorem isLast_iff (i : grid0.Coords) : isLast i ↔ (i 0).val = 15 := by
  have h := coord_lt i
  unfold isLast k0_cond2
  generalize (i 0).val = n at h ⊢
  revert n; decide +kernel

end Cert.KernelIdeal.Step

end
-- ==== Proof.Body.lean ====
module

public import proofs.«01_k».proof.Proof.Step

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- Two matrices put over each other: the upper one. -/
theorem put_full2 {α : Type} {a b : ℕ} (x w : (⟨2, ![a, b]⟩ : Shape).Idx → α) :
    VecWindow.put (s := ⟨2, ![a, b]⟩) x ![0, 0] ![a, b] w = w := by
  funext y
  unfold VecWindow.put
  rw [dif_pos (fun k => by fin_cases k <;> exact ⟨Nat.zero_le _, lt_of_lt_of_eq (y _).isLt (Nat.zero_add _).symm⟩)]
  exact congrArg w (funext fun k => by fin_cases k <;> rfl)

/-- The same of blocks of three axes. -/
theorem put_full3 {α : Type} {a b c : ℕ} (x w : (⟨3, ![a, b, c]⟩ : Shape).Idx → α) :
    VecWindow.put (s := ⟨3, ![a, b, c]⟩) x ![0, 0, 0] ![a, b, c] w = w := by
  funext y
  unfold VecWindow.put
  rw [dif_pos (fun k => by fin_cases k <;> exact ⟨Nat.zero_le _, lt_of_lt_of_eq (y _).isLt (Nat.zero_add _).symm⟩)]
  exact congrArg w (funext fun k => by fin_cases k <;> rfl)

/-- A load is a window of what the view reads. -/
theorem readAt_window {sig : RefSig} {κ : Kind} {sp : Space} {s : Shape} {e : EltTy} {Val : EltTy → Type} (v : View sig κ sp s e)
    (f : v.ty.Contents Val) {off size : Fin s.rank → ℕ} (inb : ∀ a, off a + size a ≤ s.size a) :
    v.readAt Val (Rect.unit off size inb).toLoadRect f = VecWindow.window (v.read Val f) off size inb := rfl

/-- A matrix read whole. -/
theorem window_full2 {α : Type} {a b : ℕ} (x : (⟨2, ![a, b]⟩ : Shape).Idx → α) (h) :
    VecWindow.window (s := ⟨2, ![a, b]⟩) x ![0, 0] ![a, b] h = x := by
  funext y
  exact congrArg x (funext fun k => Fin.ext (by
    fin_cases k <;> exact (Nat.zero_add _).trans (Nat.one_mul _)))

/-- A block of three axes read whole. -/
theorem window_full3 {α : Type} {a b c : ℕ} (x : (⟨3, ![a, b, c]⟩ : Shape).Idx → α) (h) :
    VecWindow.window (s := ⟨3, ![a, b, c]⟩) x ![0, 0, 0] ![a, b, c] h = x := by
  funext y
  exact congrArg x (funext fun k => Fin.ext (by
    fin_cases k <;> exact (Nat.zero_add _).trans (Nat.one_mul _)))

/-- The slot the first point reads is the one it has filled. -/
theorem window_put_first {α : Type} {i : grid0.Coords} (hc0 : isFirst i) (x : S2x1024x1024.Idx → α)
    (w : (⟨3, ![1, 1024, 1024]⟩ : Shape).Idx → α) (inb) :
    VecWindow.window (s := S2x1024x1024) (VecWindow.put (s := S2x1024x1024) x ![0, 0, 0] ![1, 1024, 1024] w) (k0_off1 i)
      ![1, 1024, 1024] inb = w := by
  have h : k0_off1 i = ![0, 0, 0] := by rw [off1_eq, (isFirst_iff i).mp hc0]
  revert inb; rw [h]; intro inb
  exact VecWindow.window_put_same x ![0, 0, 0] ![1, 1024, 1024] inb w

set_option maxHeartbeats 6400000 in
/-- The body's triple, on whole buffers: from any contents of the outputs and of the scratch, the inputs are left as
    they were, the outputs hold the point's blocks and the scratch has made the step. -/
theorem body_run (c : Dev nD) (i : grid0.Coords)
    (arg1 : Memref sig .tc .vmem S1024x256 .f32) (harg1 : arg1.IsWhole) (arg2 : Memref sig .tc .vmem S1x256x1024 .f32) (harg2 : arg2.IsWhole)
    (arg3 : Memref sig .tc .vmem S1x256x1024 .f32) (harg3 : arg3.IsWhole) (arg4 : Memref sig .tc .vmem S1024x1 .f32) (harg4 : arg4.IsWhole)
    (arg5 : Memref sig .tc .vmem S1x256x1024 .f32) (harg5 : arg5.IsWhole) (arg6 : Memref sig .tc .vmem S1x1x1024 .i32) (harg6 : arg6.IsWhole)
    (arg7 : Memref sig .tc .smem S1x1 .f32) (harg7 : arg7.IsWhole) (arg8 : Memref sig .tc .smem S1x1 .f32) (harg8 : arg8.IsWhole)
    (arg9 : Memref sig .tc .vmem S1024x1 .f32) (harg9 : arg9.IsWhole) (arg10 : Memref sig .tc .smem S1x1 .f32) (harg10 : arg10.IsWhole)
    (arg11 : Memref sig .tc .vmem S1024x256 .bf16) (harg11 : arg11.IsWhole) (arg12 : Memref sig .tc .vmem S2x1024x1024 .f32) (harg12 : arg12.IsWhole)
    (arg13 : Memref sig .tc .vmem S1024x1024 .f32) (harg13 : arg13.IsWhole)
    (x0 : Vec F S1024x256 .f32) (x1 x2 : Vec F S1x256x1024 .f32) (x3 : Vec F S1024x1 .f32)
    (d4 : Vec F S1x256x1024 .f32) (d5 : Vec F S1x1x1024 .i32) (d6 d7 : Vec F S1x1 .f32) (s : Scr F)
    (E : Set ℕ) (K : PUnit → sProp 𝕄) (hc : ¬ (isFirst i ∧ isLast i)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare d4 ∗ owns (c : Thread nD τ) arg6 fullShare d5
        ∗ owns (c : Thread nD τ) arg7 fullShare d6 ∗ owns (c : Thread nD τ) arg8 fullShare d7 ∗ owns (c : Thread nD τ) arg9 fullShare s.cnt
        ∗ owns (c : Thread nD τ) arg10 fullShare s.lac ∗ owns (c : Thread nD τ) arg11 fullShare s.ebf ∗ owns (c : Thread nD τ) arg12 fullShare s.mm
        ∗ owns (c : Thread nD τ) arg13 fullShare s.iot
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (zqBlk i x0 x1 x3 s)
            ∗ owns (c : Thread nD τ) arg6 fullShare (idxBlk i x0 x1 x3 s)
            ∗ owns (c : Thread nD τ) arg7 fullShare (atLast i (lossOf (step i x0 x1 x2 x3 s)) d6)
            ∗ owns (c : Thread nD τ) arg8 fullShare (atLast i (ppOf (step i x0 x1 x2 x3 s)) d7)
            ∗ owns (c : Thread nD τ) arg9 fullShare (step i x0 x1 x2 x3 s).cnt ∗ owns (c : Thread nD τ) arg10 fullShare (step i x0 x1 x2 x3 s).lac
            ∗ owns (c : Thread nD τ) arg11 fullShare (step i x0 x1 x2 x3 s).ebf ∗ owns (c : Thread nD τ) arg12 fullShare (step i x0 x1 x2 x3 s).mm
            ∗ owns (c : Thread nD τ) arg13 fullShare (step i x0 x1 x2 x3 s).iot) -∗ K ⟨⟩))
      ⊢ wp frame (wpE (defs₀ (F := F)) Variants.none c none) E
          (cc0__vq_body i arg1 harg1 arg2 harg2 arg3 harg3 arg4 harg4 arg5 harg5 arg6 harg6 arg7 harg7 arg8 harg8 arg9 harg9 arg10 harg10
            arg11 harg11 arg12 harg12 arg13 harg13) K := by
  simp only [cc0__vq_body_eq_skeleton]; unfold cc0__vq_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain ⟨cnt, lac, ebf, mm, iot⟩ := s
  dsimp only at hfs0 hfs1 hfs2 hfs3 hfs4
  subst hf0 hf1 hf2 hf3 hf4 hf5 hf6 hf7 hfs0 hfs1 hfs2 hfs3 hfs4
  by_cases hc0 : isFirst i
  on_goal 1 =>
    have hc1 : ¬ isLast i := fun h => hc ⟨hc0, h⟩
    letI : ClosedOff (k0_off1 i) := ⟨![0, 0, 0], by rw [off1_eq, (isFirst_iff i).mp hc0]⟩
    letI : ClosedOff (k0_off2 i) := ⟨![1, 0, 0], by rw [off2_eq, (isFirst_iff i).mp hc0]⟩
    have hE := @entry_first F _ i hc0; have hA := @atLast_other F _ i hc1
    have hW := @window_put_first (F .f32) i hc0
    sl_exec (disch := first | sl_exact hc0 | sl_exact hc1)
  on_goal 2 => by_cases hc1 : isLast i
  on_goal 2 =>
    have hE := @entry_other F _ i hc0; have hA := @atLast_last F _ i hc1; have hW := trivial
    sl_exec (disch := first | sl_exact hc0 | sl_exact hc1)
  on_goal 3 =>
    have hE := @entry_other F _ i hc0; have hA := @atLast_other F _ i hc1; have hW := trivial
    sl_exec (disch := first | sl_exact hc0 | sl_exact hc1)
  all_goals
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl
    isplitl [H5]
    · iexists _; isplitr; swap; · iexact H5
      ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl
    isplitl [H6]
    · iexists _; isplitr; swap; · iexact H6
      ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl
    isplitl [H7]
    · iexists _; isplitr; swap; · iexact H7
      ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl
    isplitl [HS0]
    · iexists _; isplitr; swap; · iexact HS0
      ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl
    isplitl [HS1]
    · iexists _; isplitr; swap; · iexact HS1
      ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl
    isplitl [HS2]
    · iexists _; isplitr; swap; · iexact HS2
      ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl
    isplitl [HS3]
    · iexists _; isplitr; swap; · iexact HS3
      ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl
    iexists _; isplitr; swap; · iexact HS4
    ipureintro; sl_unfold_run_names; simp only [step, next, zqBlk, idxBlk, lossOf, ppOf, cand, hE, hA, start, one, View.readCov, readAt_window, View.read_writes_cons_put _ _ _ _ _ rfl, View.writes_nil, put_full2, put_full3, window_full2, window_full3, hW] <;> try rfl

end Cert.KernelIdeal.Step

end
-- ==== Proof.Frame.lean ====
module

public import proofs.«01_k».proof.Proof.Body
public import Idealize.ShloMosaic.Lib.Claim

@[expose] public section

set_option maxRecDepth 16384

noncomputable section

/-! # The run of the program

The scratch from point to point, the proof data of the pipeline over it, the body's obligation and the launch. -/

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The first point forgets what the scratch held -/

/-- Two slots put over a buffer of two slots leave nothing of it. -/
theorem put_slots {α : Type} (x x' : S2x1024x1024.Idx → α) {i : grid0.Coords} (hc0 : isFirst i)
    (w w' : (⟨3, S1x1024x1024.size⟩ : Shape).Idx → α) :
    VecWindow.put (s := S2x1024x1024) (VecWindow.put (s := S2x1024x1024) x ![0, 0, 0] S1x1024x1024.size w) (k0_off2 i) S1x1024x1024.size w'
      = VecWindow.put (s := S2x1024x1024) (VecWindow.put (s := S2x1024x1024) x' ![0, 0, 0] S1x1024x1024.size w) (k0_off2 i) S1x1024x1024.size w' := by
  rw [off2_eq, (isFirst_iff i).mp hc0]
  funext y
  by_cases h : ∀ k, (![(0 + 1) % 2, 0, 0] : Fin 3 → ℕ) k ≤ (y k).val ∧ (y k).val < (![(0 + 1) % 2, 0, 0] : Fin 3 → ℕ) k + S1x1024x1024.size k
  · unfold VecWindow.put
    rw [dif_pos h, dif_pos h]
  · have h0 : ∀ k, (![0, 0, 0] : Fin 3 → ℕ) k ≤ (y k).val ∧ (y k).val < (![0, 0, 0] : Fin 3 → ℕ) k + S1x1024x1024.size k := by
      have hy0 : (y 0).val < 2 := (y 0).isLt
      have hy1 : (y 1).val < 1024 := (y 1).isLt
      have hy2 : (y 2).val < 1024 := (y 2).isLt
      have hz : (y 0).val = 0 := by
        by_contra hne
        apply h
        intro k
        fin_cases k
        · exact ⟨by change 1 ≤ (y 0).val; omega, by change (y 0).val < 1 + 1; omega⟩
        · exact ⟨Nat.zero_le _, by change (y 1).val < 0 + 1024; omega⟩
        · exact ⟨Nat.zero_le _, by change (y 2).val < 0 + 1024; omega⟩
      intro k
      fin_cases k
      · exact ⟨Nat.zero_le _, by change (y 0).val < 0 + 1; omega⟩
      · exact ⟨Nat.zero_le _, by change (y 1).val < 0 + 1024; omega⟩
      · exact ⟨Nat.zero_le _, by change (y 2).val < 0 + 1024; omega⟩
    unfold VecWindow.put
    rw [dif_neg h, dif_neg h, dif_pos h0, dif_pos h0]

/-- The candidates at the first point are those of the product it has just made. -/
theorem cand_first {i : grid0.Coords} (hc0 : isFirst i) (x0 : Vec F S1024x256 .f32) (x1 : Vec F S1x256x1024 .f32) (x3 : Vec F S1024x1 .f32)
    (s : Scr F) : cand i x1 x3 (start x0 x1 s) = k0_pay9 x3 x1 (k0_pay7 (k0_pay5 x0) x1) k0_pay6 :=
  congrArg (fun w => k0_pay9 x3 x1 w k0_pay6) (window_put_first hc0 s.mm (k0_pay7 (k0_pay5 x0) x1) (k0_off1_inb i))

/-- The first point's step does not depend on what the scratch held. -/
theorem step_first {i : grid0.Coords} (hc0 : isFirst i) (x0 : Vec F S1024x256 .f32) (x1 x2 : Vec F S1x256x1024 .f32) (x3 : Vec F S1024x1 .f32)
    (s s' : Scr F) : step i x0 x1 x2 x3 s = step i x0 x1 x2 x3 s' := by
  unfold step
  rw [entry_first hc0, entry_first hc0]
  unfold next
  rw [cand_first hc0, cand_first hc0]
  have := put_slots s.mm s'.mm hc0 (k0_pay7 (k0_pay5 x0) x1) (k0_pay1 (k0_pay5 x0) x2)
  simp only [start] at this ⊢
  rw [this]

/-- Nor does the block of vectors it stores, -/
theorem zqBlk_first {i : grid0.Coords} (hc0 : isFirst i) (x0 : Vec F S1024x256 .f32) (x1 : Vec F S1x256x1024 .f32) (x3 : Vec F S1024x1 .f32)
    (s s' : Scr F) : zqBlk i x0 x1 x3 s = zqBlk i x0 x1 x3 s' := by
  unfold zqBlk
  rw [entry_first hc0, entry_first hc0, cand_first hc0, cand_first hc0]
  rfl

/-- nor the block of indices. -/
theorem idxBlk_first {i : grid0.Coords} (hc0 : isFirst i) (x0 : Vec F S1024x256 .f32) (x1 : Vec F S1x256x1024 .f32) (x3 : Vec F S1024x1 .f32)
    (s s' : Scr F) : idxBlk i x0 x1 x3 s = idxBlk i x0 x1 x3 s' := by
  unfold idxBlk
  rw [entry_first hc0, entry_first hc0, cand_first hc0, cand_first hc0]

variable (m : (ℓ : Loc nD τ sig) → Buf (Elt F) ℓ) (ρ : Dev nD → PrngReg)

/-! ## The scratch from point to point -/

/-- Point `t`'s step over its blocks. -/
def stepAt (c : Dev nD) (t : Fin cfg0.N) (s : Scr F) : Scr F :=
  step (grid0.coords t) (iblk m c 0 t) (iblk m c 1 t) (iblk m c 2 t) (iblk m c 3 t) s

/-- The scratch before point `n` (before the first: zeros, of which nothing depends). -/
def scrAt (c : Dev nD) : ℕ → Scr F
  | 0 => ⟨k0_pay4, fun _ => Scalar.ofBits .f32 0x00000000#32, fun _ => Scalar.ofBits .bf16 0#16,
      fun _ => Scalar.ofBits .f32 0x00000000#32, fun _ => Scalar.ofBits .f32 0x00000000#32⟩
  | n + 1 => if h : n < cfg0.N then stepAt m c ⟨n, h⟩ (scrAt c n) else scrAt c n

/-- After a point: its step. -/
theorem scrAt_succ (c : Dev nD) (t : Fin cfg0.N) : scrAt m c (t.val + 1) = stepAt m c t (scrAt m c t.val) := by
  rw [scrAt, dif_pos t.isLt]

/-- The vectors point `t` stores. -/
def zqAt (c : Dev nD) (t : Fin cfg0.N) (s : Scr F) : Vec F S1x256x1024 .f32 :=
  zqBlk (grid0.coords t) (iblk m c 0 t) (iblk m c 1 t) (iblk m c 3 t) s
/-- The indices point `t` stores. -/
def idxAt (c : Dev nD) (t : Fin cfg0.N) (s : Scr F) : Vec F S1x1x1024 .i32 :=
  idxBlk (grid0.coords t) (iblk m c 0 t) (iblk m c 1 t) (iblk m c 3 t) s

/-! ## The five scratch buffers, as the invariant names them -/

/-- The running counts. -/
abbrev scM_0 : Memref sig .tc .vmem S1024x1 .f32 := Memref.whole cc0_scratch0
/-- The running loss. -/
abbrev scM_1 : Memref sig .tc .smem S1x1 .f32 := Memref.whole cc0_scratch1
/-- The table, narrowed. -/
abbrev scM_2 : Memref sig .tc .vmem S1024x256 .bf16 := Memref.whole cc0_scratch2
/-- The products, two slots of them. -/
abbrev scM_3 : Memref sig .tc .vmem S2x1024x1024 .f32 := Memref.whole cc0_scratch3
/-- The row numbers. -/
abbrev scM_4 : Memref sig .tc .vmem S1024x1024 .f32 := Memref.whole cc0_scratch4

/-- The scratch buffers hold `s`, the generator's register is at some state. -/
def holds (c : Dev nD) (s : Scr F) : sProp 𝕄 :=
  iprop(iprop(owns (c : Thread nD τ) scM_0 fullShare s.cnt ∗ owns (c : Thread nD τ) scM_2 fullShare s.ebf
    ∗ owns (c : Thread nD τ) scM_3 fullShare s.mm ∗ owns (c : Thread nD τ) scM_4 fullShare s.iot
    ∗ owns (c : Thread nD τ) scM_1 fullShare s.lac) ∗ (∃ r, prngReg c r))

/-- What the launch hands the region: the scratch at any contents. -/
theorem PhiA_eq (c : Dev nD) :
    (Pipeline.ΦA spec0 c : sProp 𝕄)
      = iprop(iprop((∃ d, owns (c : Thread nD τ) scM_0 fullShare d) ∗ (∃ d, owns (c : Thread nD τ) scM_2 fullShare d) ∗ (∃ d, owns (c : Thread nD τ) scM_3 fullShare d) ∗ (∃ d, owns (c : Thread nD τ) scM_4 fullShare d) ∗ (∃ d, owns (c : Thread nD τ) scM_1 fullShare d)) ∗ (∃ r, prngReg c r)) := by
  unfold Pipeline.ΦA; rw [scopedRest0_eq]; simp only [scM_0, scM_1, scM_2, scM_3, scM_4, owns_whole]; try rfl

/-- Any contents are the contents of some scratch. -/
theorem PhiA_holds (c : Dev nD) : (Pipeline.ΦA spec0 c : sProp 𝕄) ⊢ iprop(∃ s : Scr F, holds c s) := by
  rw [PhiA_eq]; unfold holds
  iintro ⟨⟨⟨%d0, H0⟩, ⟨%d2, H2⟩, ⟨%d3, H3⟩, ⟨%d4, H4⟩, ⟨%d1, H1⟩⟩, Hg⟩
  iexists ⟨d0, d1, d2, d3, d4⟩
  isplitr [Hg]
  · isplitl [H0]; · iexact H0
    isplitl [H2]; · iexact H2
    isplitl [H3]; · iexact H3
    isplitl [H4]; · iexact H4
    iexact H1
  iexact Hg

/-- And named contents may be forgotten. -/
theorem holds_PhiA (c : Dev nD) (s : Scr F) : holds c s ⊢ (Pipeline.ΦA spec0 c : sProp 𝕄) := by
  rw [PhiA_eq]; unfold holds
  iintro ⟨⟨H0, H2, H3, H4, H1⟩, Hg⟩
  isplitr [Hg]
  · isplitl [H0]; · iexists _; iexact H0
    isplitl [H2]; · iexists _; iexact H2
    isplitl [H3]; · iexists _; iexact H3
    isplitl [H4]; · iexists _; iexact H4
    iexists _; iexact H1
  iexact Hg

/-- The invariant before point `n`: anything in the scratch before the first, `scrAt` before any other. -/
def PhiS (c : Dev nD) : (n : ℕ) → n ≤ cfg0.N → sProp 𝕄
  | 0, _ => Pipeline.ΦA spec0 c
  | n + 1, _ => holds c (scrAt m c (n + 1))

/-! ## The pipeline's proof data -/

/-- The proof data of the pipeline on core `c`: the arrays as the region finds them; after the body at point `t` each
    input's buffer at its block, the outputs' at what the point stores; the invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zqAt m c t (scrAt m c t.val)
    | ⟨5, _⟩ => idxAt m c t (scrAt m c t.val)
    | ⟨6, _⟩ => lossOf (scrAt m c (t.val + 1))
    | ⟨7, _⟩ => ppOf (scrAt m c (t.val + 1))
  Φ t := PhiS m c t.val (Nat.le_of_lt_succ t.isLt)
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in the table's buffer: the block as loaded. -/
theorem after_0 (c : Dev nD) (t : Fin cfg0.N) : (dats m 0 c).after 0 t = iblk m c 0 t := by dsimp only [dats]
/-- What the body leaves in the tokens' buffer: the block as loaded. -/
theorem after_1 (c : Dev nD) (t : Fin cfg0.N) : (dats m 0 c).after 1 t = iblk m c 1 t := by dsimp only [dats]
/-- What the body leaves in the next tokens' buffer: the block as loaded. -/
theorem after_2 (c : Dev nD) (t : Fin cfg0.N) : (dats m 0 c).after 2 t = iblk m c 2 t := by dsimp only [dats]
/-- What the body leaves in the norms' buffer: the block as loaded. -/
theorem after_3 (c : Dev nD) (t : Fin cfg0.N) : (dats m 0 c).after 3 t = iblk m c 3 t := by dsimp only [dats]
/-- What the body leaves in the vectors' buffer: the block as the point stores it. -/
theorem after_4 (c : Dev nD) (t : Fin cfg0.N) : (dats m 0 c).after 4 t = zqAt m c t (scrAt m c t.val) := by dsimp only [dats]
/-- What the body leaves in the numbers' buffer: the block as the point stores it. -/
theorem after_5 (c : Dev nD) (t : Fin cfg0.N) : (dats m 0 c).after 5 t = idxAt m c t (scrAt m c t.val) := by dsimp only [dats]
/-- What the body leaves in the loss's buffer: the block as the last point would store it. -/
theorem after_6 (c : Dev nD) (t : Fin cfg0.N) : (dats m 0 c).after 6 t = lossOf (scrAt m c (t.val + 1)) := by dsimp only [dats]
/-- What the body leaves in the perplexity's buffer: the block as the last point would store it. -/
theorem after_7 (c : Dev nD) (t : Fin cfg0.N) : (dats m 0 c).after 7 t = ppOf (scrAt m c (t.val + 1)) := by dsimp only [dats]

/-- What the body finds in the table's buffer: the block as loaded. -/
theorem before_0 (c : Dev nD) (t : Fin cfg0.N) (d) : (dats m 0 c).before 0 t d = iblk m c 0 t :=
  before0_0_of m (dats m 0 c) (A_eq m c 0) (after_0 m c) t d
/-- What the body finds in the tokens' buffer: the block as loaded. -/
theorem before_1 (c : Dev nD) (t : Fin cfg0.N) (d) : (dats m 0 c).before 1 t d = iblk m c 1 t :=
  before0_1_of m (dats m 0 c) (A_eq m c 1) (after_1 m c) t d
/-- What the body finds in the next tokens' buffer: the block as loaded. -/
theorem before_2 (c : Dev nD) (t : Fin cfg0.N) (d) : (dats m 0 c).before 2 t d = iblk m c 2 t :=
  before0_2_of m (dats m 0 c) (A_eq m c 2) (after_2 m c) t d
/-- What the body finds in the norms' buffer: the block as loaded. -/
theorem before_3 (c : Dev nD) (t : Fin cfg0.N) (d) : (dats m 0 c).before 3 t d = iblk m c 3 t :=
  before0_3_of m (dats m 0 c) (A_eq m c 3) (after_3 m c) t d

/-! ## The body's obligation -/

/-- The scalar results' windows are live at the last point only, and written back there only. -/
theorem live_67 : ∀ t : Fin cfg0.N, isLast (grid0.coords t) → cfg0.idle 6 (grid0.coords t) = false ∧ cfg0.idle 7 (grid0.coords t) = false := by
  decide +kernel
/-- At the other points they are idle and not written back. -/
theorem idle_67 : ∀ t : Fin cfg0.N, ¬ isLast (grid0.coords t) →
    (cfg0.idle 6 (grid0.coords t) = true ∧ (cfg0.win 6).flush t = false) ∧ (cfg0.idle 7 (grid0.coords t) = true ∧ (cfg0.win 7).flush t = false) := by
  decide +kernel

/-- A window that is live leaves what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The loss's buffer after the body. -/
theorem leaves_6 (c : Dev nD) (t : Fin cfg0.N) (d) :
    owns (c : Thread nD τ) (st0_6 t) fullShare (atLast (grid0.coords t) (lossOf (scrAt m c (t.val + 1))) ((dats m 0 c).before 6 t d))
      ⊢ (dats m 0 c).leavesExact 6 t := by
  by_cases h : isLast (grid0.coords t)
  · rw [leaves_live m c 6 t (live_67 t h).1, after_6, atLast_last h]
  · rw [Dat.leavesExact_idle (dats m 0 c) 6 t (idle_67 t h).1.1 (idle_67 t h).1.2, atLast_other h]
    iintro H; iexists _; iexact H

/-- The perplexity's buffer after the body. -/
theorem leaves_7 (c : Dev nD) (t : Fin cfg0.N) (d) :
    owns (c : Thread nD τ) (st0_7 t) fullShare (atLast (grid0.coords t) (ppOf (scrAt m c (t.val + 1))) ((dats m 0 c).before 7 t d))
      ⊢ (dats m 0 c).leavesExact 7 t := by
  by_cases h : isLast (grid0.coords t)
  · rw [leaves_live m c 7 t (live_67 t h).2, after_7, atLast_last h]
  · rw [Dat.leavesExact_idle (dats m 0 c) 7 t (idle_67 t h).2.1 (idle_67 t h).2.2, atLast_other h]
    iintro H; iexists _; iexact H

/-- The point's number is its coordinate. -/
theorem coord_val (t : Fin cfg0.N) : (grid0.coords t 0).val = t.val := by
  have h : (grid0.coords t 0).val = t.val / 1 % 16 := Pipeline.Grid.coords_val t 0 (by decide) rfl
  have ht : t.val < 16 := lt_of_lt_of_eq t.isLt N_0
  omega

/-- Before any point the scratch holds some contents over which the point does what it does over `scrAt`. -/
theorem Phi_in (c : Dev nD) (t : Fin cfg0.N) :
    (dats m 0 c).Φ t.castSucc ⊢ iprop(∃ s : Scr F, ⌜zqAt m c t s = zqAt m c t (scrAt m c t.val) ∧ idxAt m c t s = idxAt m c t (scrAt m c t.val)
      ∧ stepAt m c t s = scrAt m c (t.val + 1)⌝ ∗ holds c s) := by
  rw [PhiS_castSucc m c t, scrAt_succ]
  obtain ⟨n, hn⟩ := t
  cases n with
  | zero =>
    have h0 : isFirst (grid0.coords ⟨0, hn⟩) := (isFirst_iff _).mpr (coord_val ⟨0, hn⟩)
    refine (PhiA_holds c).trans ?_
    iintro ⟨%s, H⟩
    iexists s
    isplitr
    · ipureintro
      exact ⟨zqBlk_first h0 _ _ _ _ _, idxBlk_first h0 _ _ _ _ _, step_first h0 _ _ _ _ _ _⟩
    iexact H
  | succ n =>
    unfold PhiS
    iintro H
    iexists _
    isplitr
    · ipureintro
      exact ⟨rfl, rfl, rfl⟩
    iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: `body_run` over the scratch the invariant hands it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = holds c (scrAt m c (t.val + 1)) from rfl]
  rw [leaves_live m c 0 t rfl, leaves_live m c 1 t rfl, leaves_live m c 2 t rfl, leaves_live m c 3 t rfl, leaves_live m c 4 t rfl,
    leaves_live m c 5 t rfl, after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ := (Phi_in m c t) $$ HΦ
  icases HΦ with ⟨%s, %hs, HΦ⟩
  unfold holds
  icases HΦ with ⟨⟨HS0, HS2, HS3, HS4, HS1⟩, Hg⟩
  have hc : ¬ (isFirst (grid0.coords t) ∧ isLast (grid0.coords t)) := by
    rw [isFirst_iff, isLast_iff]; omega
  iapply (body_run c (grid0.coords t) _ _ _ _ _ _ _ _ _ _ _ _ _ _ _ _ _ _ _ _ _ _ _ _ _ _ (iblk m c 0 t) (iblk m c 1 t) (iblk m c 2 t) (iblk m c 3 t) _ _ _ _ s Set.univ _ hc)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  rw [show step (grid0.coords t) (iblk m c 0 t) (iblk m c 1 t) (iblk m c 2 t) (iblk m c 3 t) s = scrAt m c (t.val + 1) from hs.2.2,
    show zqBlk (grid0.coords t) (iblk m c 0 t) (iblk m c 1 t) (iblk m c 3 t) s = zqAt m c t (scrAt m c t.val) from hs.1,
    show idxBlk (grid0.coords t) (iblk m c 0 t) (iblk m c 1 t) (iblk m c 3 t) s = idxAt m c t (scrAt m c t.val) from hs.2.1]
  iintro ⟨H0, H1, H2, H3, H4, H5, H6, H7, HS0, HS1, HS2, HS3, HS4⟩
  isplitl [HS0 HS1 HS2 HS3 HS4 Hg]
  · isplitr [Hg]
    · isplitl [HS0]; · iexact HS0
      isplitl [HS2]; · iexact HS2
      isplitl [HS3]; · iexact HS3
      isplitl [HS4]; · iexact HS4
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_6 m c t d6); iexact H6
  iapply (leaves_7 m c t d7); iexact H7

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := .rfl

/-- The invariant after the last point gives it back. -/
theorem hout (c : Dev nD) : (dats m 0 c).Φ (Fin.last cfg0.N) ⊢ Pipeline.ΦA spec0 c := holds_PhiA c _

/-! ## The run and the frame -/

set_option backward.isDefEq.respectTransparency.types false in
set_option maxHeartbeats 800000 in
/-- The launch: every array of the pipeline ends at what the proof data computes, every other buffer as the lines after
    the region leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Step

end
-- ==== Proof.Same.lean ====
module

public import proofs.«01_k».proof.Defs
public import proofs.«01_k».proof.Proof.Gen.Kernel
public import proofs.«01_k».proof.Proof.Frame

@[expose] public section

set_option maxHeartbeats 8000000

noncomputable section

/-! # The program as printed and its idealized print are one program

No operation was rewritten, so the two modules define the same thing twice; what is shown of one at any float
instance is shown of the other. -/

namespace Cert.Same

open Idealize.ShloMosaic Idealize.SL.Sem

variable {F : FTy → Type} [FloatOps F]

/-- The first part of the body. -/
theorem part1 : @Cert.Kernel.k0_part1 F _ Cert.Kernel.Gen.facts = @Cert.KernelIdeal.k0_part1 F _ Cert.KernelIdeal.Gen.facts := by
  unfold Cert.Kernel.k0_part1 Cert.KernelIdeal.k0_part1
  with_unfolding_all rfl

/-- The second part of the body. -/
theorem part2 : @Cert.Kernel.k0_part2 F _ Cert.Kernel.Gen.facts = @Cert.KernelIdeal.k0_part2 F _ Cert.KernelIdeal.Gen.facts := by
  unfold Cert.Kernel.k0_part2 Cert.KernelIdeal.k0_part2
  with_unfolding_all rfl

/-- The body. -/
theorem body : @Cert.Kernel.cc0__vq_body F _ Cert.Kernel.Gen.facts = @Cert.KernelIdeal.cc0__vq_body F _ Cert.KernelIdeal.Gen.facts := by
  unfold Cert.Kernel.cc0__vq_body Cert.KernelIdeal.cc0__vq_body
  rw [part1, part2]
  with_unfolding_all rfl

/-- The table of bodies. -/
theorem bodies : @Cert.Kernel.defs₀ F _ Cert.Kernel.Gen.facts = @Cert.KernelIdeal.defs₀ F _ Cert.KernelIdeal.Gen.facts := by
  unfold Cert.Kernel.defs₀ Cert.KernelIdeal.defs₀
  rw [body]
  refine congrArg Defs.onTc (funext fun x => funext fun y => ?_)
  obtain ⟨_ | n, h⟩ := x
  · obtain ⟨t, s⟩ := y
    with_unfolding_all rfl
  · exact absurd h (Nat.not_lt.2 (Nat.le_add_left _ _))

/-- The program's table. -/
theorem defs : @Cert.Kernel.defs F _ Cert.Kernel.Gen.facts = @Cert.KernelIdeal.defs F _ Cert.KernelIdeal.Gen.facts := by
  unfold Cert.Kernel.defs Cert.KernelIdeal.defs
  rw [bodies]
  with_unfolding_all rfl

/-- The program. -/
theorem main : @Cert.Kernel.main F _ Cert.Kernel.Gen.facts = @Cert.KernelIdeal.main F _ Cert.KernelIdeal.Gen.facts := rfl

/-- The frame of the program as printed. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs, main]
  exact Cert.KernelIdeal.Step.frame m g

end Cert.Same

end
-- ==== Proof.RefRun.lean ====
module

public import proofs.«01_k».proof.Proof.Gen.ReferenceIdeal
public import Idealize.ShloMosaic.Lib.StableHlo.Run
public import Idealize.ShloMosaic.Lib.Quiescent
public import Idealize.ShloMosaic.Lib.Claim

@[expose] public section

noncomputable section

/-! # The run of the reference

The reference is a straight line of host operations. Its results are named here by the steps of the mathematics: the
rows, the distances, the nearest row of the table, the table row taken, the loss and the perplexity. -/

namespace Cert.ReferenceIdeal.Value

open Cert.ReferenceIdeal Cert.ReferenceIdeal.Gen
open Idealize.ShloMosaic Idealize.ShloMosaic.TcCoe Idealize.SL.Sem Idealize.ShloMosaic.StableHlo

variable {F : FTy → Type} [FloatOps F]

/-! ## The steps -/

/-- The tokens as the rows of a matrix: the channels last. -/
def rows (z : FVec F S4x256x4x32x32 .f32) : FVec F S16384x256 .f32 :=
  shapeCast S16384x256 (transpose S4x4x32x32x256 [0, 2, 3, 4, 1] z transposes_S4x256x4x32x32_S4x4x32x32x256_0_2_3_4_1)
    shapeCasts_S4x4x32x32x256_S16384x256

/-- The squared distances of every token to every row of the table. -/
def dist (x : FVec F S16384x256 .f32) (e : FVec F S1024x256 .f32) : FVec F S16384x1024 .f32 :=
  subf
    (addf
      (broadcastInDim S16384x1024 ![0, 1] bcast_S16384x1_S16384x1024_0_1
        (broadcastInDim S16384x1 ![0] bcast_S16384_S16384x1_0
          (Host.reduceAdd (mulf x x) (constant S_ .f32 0x00000000#32) reducesTo_S16384x256_S16384_d1 h_S_)))
      (broadcastInDim S16384x1024 ![0, 1] bcast_S1x1024_S16384x1024_0_1
        (broadcastInDim S1x1024 ![1] bcast_S1024_S1x1024_1
          (Host.reduceAdd (mulf e e) (constant S_ .f32 0x00000000#32) reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none x
        (transpose S256x1024 [1, 0] e transposes_S1024x256_S256x1024_1_0)))

/-- The number of the nearest row of the table, of each token. -/
def nearest (d : FVec F S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- A row number with the negative ones counted from the end of the table, as a column. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Which row numbers lie in the table. -/
def inRange (w : IVec S16384x1 32) : IVec S16384 1 :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The rows of the table taken at the row numbers. -/
def taken (e : FVec F S1024x256 .f32) (i : IVec S16384 32) : FVec F S16384x256 .f32 :=
  select (broadcastInDim S16384x256 ![0] bcast_S16384_S16384x256_0 (inRange (wrapped i)))
    (Host.gather gather_S1024x256_S16384x1_S16384x256_1_0_n_n_0_1_1256 e (wrapped i))
    (broadcastInDim S16384x256 ![] bcast_S_S16384x256 (constant S_ .f32 0x7FC00000#32))

/-- A quarter of the mean squared difference. -/
def lossR (x q : FVec F S16384x256 .f32) : FVec F S_ .f32 :=
  mulf (constant S_ .f32 0x3E800000#32)
    (Host.divf
      (Host.reduceAdd (mulf (subf x q) (subf x q)) (constant S_ .f32 0x00000000#32) reducesTo_S16384x256_S_d0_1 h_S_)
      (constant S_ .f32 0x4A800000#32))

/-- The quantised tokens handed straight through, in the layout of the argument. -/
def throughR (x q : FVec F S16384x256 .f32) : FVec F S4x256x4x32x32 .f32 :=
  transpose S4x256x4x32x32 [0, 4, 1, 2, 3]
    (shapeCast S4x4x32x32x256 (addf x (subf q x)) shapeCasts_S16384x256_S4x4x32x32x256)
    transposes_S4x4x32x32x256_S4x256x4x32x32_0_4_1_2_3

/-- The row numbers in the layout of the argument. -/
def numbersR (i : IVec S16384 32) : IVec S4x4x32x32 32 := shapeCast S4x4x32x32 i shapeCasts_S16384_S4x4x32x32

/-- For each token the indicator of its row number. -/
def oneHotR (i : IVec S16384 32) : FVec F S16384x1024 .f32 :=
  uitofp .f32
    (cmpi .eq
      (broadcastInDim S16384x1024 ![0, 1] bcast_S16384x1_S16384x1024_0_1
        (broadcastInDim S16384x1 ![0] bcast_S16384_S16384x1_0 i))
      (broadcastInDim S16384x1024 ![0, 1] bcast_S1x1024_S16384x1024_0_1 (iotaInDim S1x1024 32 1)))

/-- The share of the tokens that chose each row. -/
def shareR (o : FVec F S16384x1024 .f32) : FVec F S1024 .f32 :=
  Host.divf (Host.reduceAdd o (constant S_ .f32 0x00000000#32) reducesTo_S16384x1024_S1024_d0 h_S_)
    (broadcastInDim S1024 ![] bcast_S_S1024 (constant S_ .f32 0x46800000#32))

/-- The exponential of the entropy of the shares. -/
def perplexityR (p : FVec F S1024 .f32) : FVec F S_ .f32 :=
  Host.exp
    (Host.negf
      (Host.reduceAdd
        (mulf p (Host.log (addf p (broadcastInDim S1024 ![] bcast_S_S1024 (constant S_ .f32 0x2EDBE6FF#32)))))
        (constant S_ .f32 0x00000000#32) reducesTo_S1024_S_d0 h_S_))

/-- The row number of each token, from the arguments. -/
def numberOf (z : FVec F S4x256x4x32x32 .f32) (e : FVec F S1024x256 .f32) : IVec S16384 32 := nearest (dist (rows z) e)

/-- The row of each token, from the arguments. -/
def rowOf (z : FVec F S4x256x4x32x32 .f32) (e : FVec F S1024x256 .f32) : FVec F S16384x256 .f32 :=
  taken e (numberOf z e)

/-! ## The run -/

/-- The operations of the step: the tokens as rows. -/
abbrev opsRows : List (HloOp τ sig (Elt F)) :=
  [ unary main_arg0 main_v0 ((transpose S4x4x32x32x256 [0, 2, 3, 4, 1] · transposes_S4x256x4x32x32_S4x4x32x32x256_0_2_3_4_1) : (⟨S4x256x4x32x32, .f32⟩ : BufTy).Contents (Elt F) → (⟨S4x4x32x32x256, .f32⟩ : BufTy).Contents (Elt F)),
    reshape main_v0 main_v1 (rfl : (.f32 : EltTy) = .f32) shapeCasts_S4x4x32x32x256_S16384x256 ]

/-- What the step writes. -/
abbrev writesRows : List (Ref sig .tc) := [main_v0, main_v1]

/-- The operations of the step: the distances. -/
abbrev opsDist : List (HloOp τ sig (Elt F)) :=
  [ binary main_v1 main_v1 main_v2 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v2 main_cst main_v3 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    unary main_v7 main_v9 (broadcastInDim S16384x1024 ![0, 1] bcast_S1x1024_S16384x1024_0_1 : (⟨S1x1024, .f32⟩ : BufTy).Contents (Elt F) → (⟨S16384x1024, .f32⟩ : BufTy).Contents (Elt F)),
    binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_1 (constant S_ .f32 0x40000000#32),
    unary main_cst_1 main_v13 (broadcastInDim S16384x1024 ![] bcast_S_S16384x1024 : (⟨S_, .f32⟩ : BufTy).Contents (Elt F) → (⟨S16384x1024, .f32⟩ : BufTy).Contents (Elt F)),
    binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
    binary main_v10 main_v14 main_v15 (subf : (⟨S16384x1024, .f32⟩ : BufTy).Contents (Elt F) → (⟨S16384x1024, .f32⟩ : BufTy).Contents (Elt F) → (⟨S16384x1024, .f32⟩ : BufTy).Contents (Elt F)) ]

/-- What the step writes. -/
abbrev writesDist : List (Ref sig .tc) := [main_v2, main_cst, main_v3, main_v4, main_v5, main_cst_0, main_v6, main_v7, main_v8, main_v9, main_v10, main_v11, main_v12, main_cst_1, main_v13, main_v14, main_v15]

/-- The operations of the step: the nearest rows. -/
abbrev opsNear : List (HloOp τ sig (Elt F)) :=
  [ TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v => (fun j => (Host.argReduce reducer_argmin_f32_i32 x y u v reducesTo_S16384x1024_S16384_d1 h_S_ j).1)),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .i32⟩) main_v16) (fun x y u v => (fun j => (Host.argReduce reducer_argmin_f32_i32 x y u v reducesTo_S16384x1024_S16384_d1 h_S_ j).2)) ]

/-- What the step writes. -/
abbrev writesNear : List (Ref sig .tc) := [main_call0_v0, main_call0_cst, main_call0_c, main_call0_v1_0, main_v16]

/-- The operations of the step: the row numbers as a column. -/
abbrev opsWrap : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v16) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v16) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v16) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0) ]

/-- What the step writes. -/
abbrev writesWrap : List (Ref sig .tc) := [main_call1_c, main_call1_v0, main_call1_v1, main_call1_c_0, main_call1_v2, main_call1_v3, main_call1_v4, main_call1_v5]

/-- The operations of the step: which row numbers lie in the table. -/
abbrev opsIn : List (HloOp τ sig (Elt F)) :=
  [ TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_) ]

/-- What the step writes. -/
abbrev writesIn : List (Ref sig .tc) := [main_call1_c_1, main_call1_c_2, main_call1_v6, main_call1_v7, main_call1_v8, main_call1_v9, main_call1_v10, main_call1_v11, main_call1_c_3, main_call1_v12]

/-- The operations of the step: the rows taken. -/
abbrev opsTake : List (HloOp τ sig (Elt F)) :=
  [ TRef.binary (TRef.of (T := ⟨S1024x256, .f32⟩) main_arg1) (TRef.of (T := ⟨S16384x1, .i32⟩) main_call1_v5) (TRef.of (T := ⟨S16384x256, .f32⟩) main_call1_v13) (fun x i => Host.gather gather_S1024x256_S16384x1_S16384x256_1_0_n_n_0_1_1256 x i),
    TRef.unary (TRef.of (T := ⟨S16384, .i1⟩) main_call1_v12) (TRef.of (T := ⟨S16384x256, .i1⟩) main_call1_v14) (broadcastInDim S16384x256 ![0] bcast_S16384_S16384x256_0),
    TRef.nullary (TRef.of (T := ⟨S_, .f32⟩) main_call1_cst) (constant S_ .f32 0x7FC00000#32),
    TRef.unary (TRef.of (T := ⟨S_, .f32⟩) main_call1_cst) (TRef.of (T := ⟨S16384x256, .f32⟩) main_call1_v15) (broadcastInDim S16384x256 ![] bcast_S_S16384x256),
    TRef.ternary (TRef.of (T := ⟨S16384x256, .i1⟩) main_call1_v14) (TRef.of (T := ⟨S16384x256, .f32⟩) main_call1_v13) (TRef.of (T := ⟨S16384x256, .f32⟩) main_call1_v15) (TRef.of (T := ⟨S16384x256, .f32⟩) main_v17) select ]

/-- What the step writes. -/
abbrev writesTake : List (Ref sig .tc) := [main_call1_v13, main_call1_v14, main_call1_cst, main_call1_v15, main_v17]

/-- The operations of the step: the loss. -/
abbrev opsLoss : List (HloOp τ sig (Elt F)) :=
  [ binary main_v1 main_v17 main_v18 (subf : (⟨S16384x256, .f32⟩ : BufTy).Contents (Elt F) → (⟨S16384x256, .f32⟩ : BufTy).Contents (Elt F) → (⟨S16384x256, .f32⟩ : BufTy).Contents (Elt F)),
    binary main_v18 main_v18 main_v19 (mulf : (⟨S16384x256, .f32⟩ : BufTy).Contents (Elt F) → (⟨S16384x256, .f32⟩ : BufTy).Contents (Elt F) → (⟨S16384x256, .f32⟩ : BufTy).Contents (Elt F)),
    nullary main_cst_2 (constant S_ .f32 0x00000000#32),
    binary main_v19 main_cst_2 main_v20 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_3 (constant S_ .f32 0x4A800000#32),
    binary main_v20 main_cst_3 main_v21 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v21 main_v22 (mulf : (⟨S_, .f32⟩ : BufTy).Contents (Elt F) → (⟨S_, .f32⟩ : BufTy).Contents (Elt F) → (⟨S_, .f32⟩ : BufTy).Contents (Elt F)) ]

/-- What the step writes. -/
abbrev writesLoss : List (Ref sig .tc) := [main_v18, main_v19, main_cst_2, main_v20, main_cst_3, main_v21, main_cst_4, main_v22]

/-- The operations of the step: the rows handed through. -/
abbrev opsThr : List (HloOp τ sig (Elt F)) :=
  [ binary main_v17 main_v1 main_v23 (subf : (⟨S16384x256, .f32⟩ : BufTy).Contents (Elt F) → (⟨S16384x256, .f32⟩ : BufTy).Contents (Elt F) → (⟨S16384x256, .f32⟩ : BufTy).Contents (Elt F)),
    binary main_v1 main_v23 main_v24 (addf : (⟨S16384x256, .f32⟩ : BufTy).Contents (Elt F) → (⟨S16384x256, .f32⟩ : BufTy).Contents (Elt F) → (⟨S16384x256, .f32⟩ : BufTy).Contents (Elt F)),
    reshape main_v24 main_v25 (rfl : (.f32 : EltTy) = .f32) shapeCasts_S16384x256_S4x4x32x32x256,
    unary main_v25 main_v26 ((transpose S4x256x4x32x32 [0, 4, 1, 2, 3] · transposes_S4x4x32x32x256_S4x256x4x32x32_0_4_1_2_3) : (⟨S4x4x32x32x256, .f32⟩ : BufTy).Contents (Elt F) → (⟨S4x256x4x32x32, .f32⟩ : BufTy).Contents (Elt F)) ]

/-- What the step writes. -/
abbrev writesThr : List (Ref sig .tc) := [main_v23, main_v24, main_v25, main_v26]

/-- The operations of the step: the row numbers. -/
abbrev opsNum : List (HloOp τ sig (Elt F)) :=
  [ reshape main_v16 main_v27 (rfl : (.i32 : EltTy) = .i32) shapeCasts_S16384_S4x4x32x32 ]

/-- What the step writes. -/
abbrev writesNum : List (Ref sig .tc) := [main_v27]

/-- The operations of the step: the indicators. -/
abbrev opsHot : List (HloOp τ sig (Elt F)) :=
  [ TRef.unary (TRef.of (T := ⟨S16384, .i32⟩) main_v16) (TRef.of (T := ⟨S16384x1, .i32⟩) main_call2_v0) (broadcastInDim S16384x1 ![0] bcast_S16384_S16384x1_0),
    TRef.nullary (TRef.of (T := ⟨S1x1024, .i32⟩) main_call2_v1) (iotaInDim S1x1024 32 1),
    TRef.unary (TRef.of (T := ⟨S16384x1, .i32⟩) main_call2_v0) (TRef.of (T := ⟨S16384x1024, .i32⟩) main_call2_v2) (broadcastInDim S16384x1024 ![0, 1] bcast_S16384x1_S16384x1024_0_1),
    TRef.unary (TRef.of (T := ⟨S1x1024, .i32⟩) main_call2_v1) (TRef.of (T := ⟨S16384x1024, .i32⟩) main_call2_v3) (broadcastInDim S16384x1024 ![0, 1] bcast_S1x1024_S16384x1024_0_1),
    TRef.binary (TRef.of (T := ⟨S16384x1024, .i32⟩) main_call2_v2) (TRef.of (T := ⟨S16384x1024, .i32⟩) main_call2_v3) (TRef.of (T := ⟨S16384x1024, .i1⟩) main_call2_v4) (cmpi .eq),
    TRef.unary (TRef.of (T := ⟨S16384x1024, .i1⟩) main_call2_v4) (TRef.of (T := ⟨S16384x1024, .f32⟩) main_v28) (uitofp .f32) ]

/-- What the step writes. -/
abbrev writesHot : List (Ref sig .tc) := [main_call2_v0, main_call2_v1, main_call2_v2, main_call2_v3, main_call2_v4, main_v28]

/-- The operations of the step: the shares. -/
abbrev opsShare : List (HloOp τ sig (Elt F)) :=
  [ nullary main_cst_5 (constant S_ .f32 0x00000000#32),
    binary main_v28 main_cst_5 main_v29 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_6 (constant S_ .f32 0x46800000#32),
    unary main_cst_6 main_v30 (broadcastInDim S1024 ![] bcast_S_S1024 : (⟨S_, .f32⟩ : BufTy).Contents (Elt F) → (⟨S1024, .f32⟩ : BufTy).Contents (Elt F)),
    binary main_v29 main_v30 main_v31 (Host.divf : (⟨S1024, .f32⟩ : BufTy).Contents (Elt F) → (⟨S1024, .f32⟩ : BufTy).Contents (Elt F) → (⟨S1024, .f32⟩ : BufTy).Contents (Elt F)) ]

/-- What the step writes. -/
abbrev writesShare : List (Ref sig .tc) := [main_cst_5, main_v29, main_cst_6, main_v30, main_v31]

/-- The operations of the step: the perplexity. -/
abbrev opsPerp : List (HloOp τ sig (Elt F)) :=
  [ nullary main_cst_7 (constant S_ .f32 0x2EDBE6FF#32),
    unary main_cst_7 main_v32 (broadcastInDim S1024 ![] bcast_S_S1024 : (⟨S_, .f32⟩ : BufTy).Contents (Elt F) → (⟨S1024, .f32⟩ : BufTy).Contents (Elt F)),
    binary main_v31 main_v32 main_v33 (addf : (⟨S1024, .f32⟩ : BufTy).Contents (Elt F) → (⟨S1024, .f32⟩ : BufTy).Contents (Elt F) → (⟨S1024, .f32⟩ : BufTy).Contents (Elt F)),
    unary main_v33 main_v34 (Host.log : (⟨S1024, .f32⟩ : BufTy).Contents (Elt F) → (⟨S1024, .f32⟩ : BufTy).Contents (Elt F)),
    binary main_v31 main_v34 main_v35 (mulf : (⟨S1024, .f32⟩ : BufTy).Contents (Elt F) → (⟨S1024, .f32⟩ : BufTy).Contents (Elt F) → (⟨S1024, .f32⟩ : BufTy).Contents (Elt F)),
    nullary main_cst_8 (constant S_ .f32 0x00000000#32),
    binary main_v35 main_cst_8 main_v36 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v36 main_v37 (Host.negf : (⟨S_, .f32⟩ : BufTy).Contents (Elt F) → (⟨S_, .f32⟩ : BufTy).Contents (Elt F)),
    unary main_v37 main_v38 (Host.exp : (⟨S_, .f32⟩ : BufTy).Contents (Elt F) → (⟨S_, .f32⟩ : BufTy).Contents (Elt F)) ]

/-- What the step writes. -/
abbrev writesPerp : List (Ref sig .tc) := [main_cst_7, main_v32, main_v33, main_v34, main_v35, main_cst_8, main_v36, main_v37, main_v38]

/-- The operations of the program in order, those of a called function in the place of its call. -/
abbrev ops : List (HloOp τ sig (Elt F)) :=
  opsRows ++ (opsDist ++ (opsNear ++ (opsWrap ++ (opsIn ++ (opsTake ++ (opsLoss ++ (opsThr ++ (opsNum ++ (opsHot ++ (opsShare ++ opsPerp))))))))))

set_option maxRecDepth 8192 in
set_option maxHeartbeats 4000000 in
/-- The program is its operations in sequence. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- Every operation works on buffers of the core. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., nullary_bufs_sub .., binary_bufs_sub .., binary_bufs_sub .., binary_bufs_sub .., reshape_bufs_sub .., unary_bufs_sub .., reshape_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

/-! ## Each step read back -/

/-- Two lines one after the other. -/
theorem after_two (l l' : List (HloOp τ sig (Elt F))) (V : Valuation τ sig (Elt F)) :
    after (l ++ l') V = after l' (after l V) := by
  induction l generalizing V with
  | nil => rfl
  | cons op l ih => exact ih _

/-- What the step does not write stays: the tokens as rows. -/
theorem keepRows (V : Valuation τ sig (Elt F)) (r : Ref sig .tc) (h : r ∉ writesRows) :
    after opsRows V (Proc.devRef .tc r) = V (Proc.devRef .tc r) :=
  after_of_writes_sub _ V (forall_writes_sub_of_map (W := writesRows) rfl) h

/-- What the step does not write stays: the distances. -/
theorem keepDist (V : Valuation τ sig (Elt F)) (r : Ref sig .tc) (h : r ∉ writesDist) :
    after opsDist V (Proc.devRef .tc r) = V (Proc.devRef .tc r) :=
  after_of_writes_sub _ V (forall_writes_sub_of_map (W := writesDist) rfl) h

/-- What the step does not write stays: the nearest rows. -/
theorem keepNear (V : Valuation τ sig (Elt F)) (r : Ref sig .tc) (h : r ∉ writesNear) :
    after opsNear V (Proc.devRef .tc r) = V (Proc.devRef .tc r) :=
  after_of_writes_sub _ V (forall_writes_sub_of_map (W := writesNear) rfl) h

/-- What the step does not write stays: the row numbers as a column. -/
theorem keepWrap (V : Valuation τ sig (Elt F)) (r : Ref sig .tc) (h : r ∉ writesWrap) :
    after opsWrap V (Proc.devRef .tc r) = V (Proc.devRef .tc r) :=
  after_of_writes_sub _ V (forall_writes_sub_of_map (W := writesWrap) rfl) h

/-- What the step does not write stays: which row numbers lie in the table. -/
theorem keepIn (V : Valuation τ sig (Elt F)) (r : Ref sig .tc) (h : r ∉ writesIn) :
    after opsIn V (Proc.devRef .tc r) = V (Proc.devRef .tc r) :=
  after_of_writes_sub _ V (forall_writes_sub_of_map (W := writesIn) rfl) h

/-- What the step does not write stays: the rows taken. -/
theorem keepTake (V : Valuation τ sig (Elt F)) (r : Ref sig .tc) (h : r ∉ writesTake) :
    after opsTake V (Proc.devRef .tc r) = V (Proc.devRef .tc r) :=
  after_of_writes_sub _ V (forall_writes_sub_of_map (W := writesTake) rfl) h

/-- What the step does not write stays: the loss. -/
theorem keepLoss (V : Valuation τ sig (Elt F)) (r : Ref sig .tc) (h : r ∉ writesLoss) :
    after opsLoss V (Proc.devRef .tc r) = V (Proc.devRef .tc r) :=
  after_of_writes_sub _ V (forall_writes_sub_of_map (W := writesLoss) rfl) h

/-- What the step does not write stays: the rows handed through. -/
theorem keepThr (V : Valuation τ sig (Elt F)) (r : Ref sig .tc) (h : r ∉ writesThr) :
    after opsThr V (Proc.devRef .tc r) = V (Proc.devRef .tc r) :=
  after_of_writes_sub _ V (forall_writes_sub_of_map (W := writesThr) rfl) h

/-- What the step does not write stays: the row numbers. -/
theorem keepNum (V : Valuation τ sig (Elt F)) (r : Ref sig .tc) (h : r ∉ writesNum) :
    after opsNum V (Proc.devRef .tc r) = V (Proc.devRef .tc r) :=
  after_of_writes_sub _ V (forall_writes_sub_of_map (W := writesNum) rfl) h

/-- What the step does not write stays: the indicators. -/
theorem keepHot (V : Valuation τ sig (Elt F)) (r : Ref sig .tc) (h : r ∉ writesHot) :
    after opsHot V (Proc.devRef .tc r) = V (Proc.devRef .tc r) :=
  after_of_writes_sub _ V (forall_writes_sub_of_map (W := writesHot) rfl) h

/-- What the step does not write stays: the shares. -/
theorem keepShare (V : Valuation τ sig (Elt F)) (r : Ref sig .tc) (h : r ∉ writesShare) :
    after opsShare V (Proc.devRef .tc r) = V (Proc.devRef .tc r) :=
  after_of_writes_sub _ V (forall_writes_sub_of_map (W := writesShare) rfl) h

/-- What the step does not write stays: the perplexity. -/
theorem keepPerp (V : Valuation τ sig (Elt F)) (r : Ref sig .tc) (h : r ∉ writesPerp) :
    after opsPerp V (Proc.devRef .tc r) = V (Proc.devRef .tc r) :=
  after_of_writes_sub _ V (forall_writes_sub_of_map (W := writesPerp) rfl) h

set_option maxRecDepth 8192 in
/-- What the step leaves in its result. -/
theorem valRows (V : Valuation τ sig (Elt F)) : after opsRows V (Proc.devRef .tc main_v1)
    = rows (V (Proc.devRef .tc main_arg0)) := by
  simp only [opsRows, TRef.binary, TRef.nullary, TRef.quaternary, TRef.ternary, TRef.unary, TRef.toBuf, TRef.ofBuf, cast_eq]
  after_results_simp <;> rfl

set_option maxRecDepth 8192 in
/-- What the step leaves in its result. -/
theorem valDist (V : Valuation τ sig (Elt F)) : after opsDist V (Proc.devRef .tc main_v15)
    = dist (V (Proc.devRef .tc main_v1)) (V (Proc.devRef .tc main_arg1)) := by
  simp only [opsDist, TRef.binary, TRef.nullary, TRef.quaternary, TRef.ternary, TRef.unary, TRef.toBuf, TRef.ofBuf, cast_eq]
  after_results_simp <;> rfl

set_option maxRecDepth 8192 in
/-- What the step leaves in its result. -/
theorem valNear (V : Valuation τ sig (Elt F)) : after opsNear V (Proc.devRef .tc main_v16)
    = nearest (V (Proc.devRef .tc main_v15)) := by
  simp only [opsNear, TRef.binary, TRef.nullary, TRef.quaternary, TRef.ternary, TRef.unary, TRef.toBuf, TRef.ofBuf, cast_eq]
  after_results_simp <;> rfl

set_option maxRecDepth 8192 in
/-- What the step leaves in its result. -/
theorem valWrap (V : Valuation τ sig (Elt F)) : after opsWrap V (Proc.devRef .tc main_call1_v5)
    = wrapped (V (Proc.devRef .tc main_v16)) := by
  simp only [opsWrap, TRef.binary, TRef.nullary, TRef.quaternary, TRef.ternary, TRef.unary, TRef.toBuf, TRef.ofBuf, cast_eq]
  after_results_simp <;> rfl

set_option maxRecDepth 8192 in
/-- What the step leaves in its result. -/
theorem valIn (V : Valuation τ sig (Elt F)) : after opsIn V (Proc.devRef .tc main_call1_v12)
    = inRange (V (Proc.devRef .tc main_call1_v5)) := by
  simp only [opsIn, TRef.binary, TRef.nullary, TRef.quaternary, TRef.ternary, TRef.unary, TRef.toBuf, TRef.ofBuf, cast_eq]
  after_results_simp <;> rfl

set_option maxRecDepth 8192 in
/-- What the step leaves in its result. -/
theorem valTake (V : Valuation τ sig (Elt F)) : after opsTake V (Proc.devRef .tc main_v17)
    = select (broadcastInDim S16384x256 ![0] bcast_S16384_S16384x256_0 (V (Proc.devRef .tc main_call1_v12))) (Host.gather gather_S1024x256_S16384x1_S16384x256_1_0_n_n_0_1_1256 (V (Proc.devRef .tc main_arg1)) (V (Proc.devRef .tc main_call1_v5))) (broadcastInDim S16384x256 ![] bcast_S_S16384x256 (constant S_ .f32 0x7FC00000#32)) := by
  simp only [opsTake, TRef.binary, TRef.nullary, TRef.quaternary, TRef.ternary, TRef.unary, TRef.toBuf, TRef.ofBuf, cast_eq]
  after_results_simp <;> rfl

set_option maxRecDepth 8192 in
/-- What the step leaves in its result. -/
theorem valLoss (V : Valuation τ sig (Elt F)) : after opsLoss V (Proc.devRef .tc main_v22)
    = lossR (V (Proc.devRef .tc main_v1)) (V (Proc.devRef .tc main_v17)) := by
  simp only [opsLoss, TRef.binary, TRef.nullary, TRef.quaternary, TRef.ternary, TRef.unary, TRef.toBuf, TRef.ofBuf, cast_eq]
  after_results_simp <;> rfl

set_option maxRecDepth 8192 in
/-- What the step leaves in its result. -/
theorem valThr (V : Valuation τ sig (Elt F)) : after opsThr V (Proc.devRef .tc main_v26)
    = throughR (V (Proc.devRef .tc main_v1)) (V (Proc.devRef .tc main_v17)) := by
  simp only [opsThr, TRef.binary, TRef.nullary, TRef.quaternary, TRef.ternary, TRef.unary, TRef.toBuf, TRef.ofBuf, cast_eq]
  after_results_simp <;> rfl

set_option maxRecDepth 8192 in
/-- What the step leaves in its result. -/
theorem valNum (V : Valuation τ sig (Elt F)) : after opsNum V (Proc.devRef .tc main_v27)
    = numbersR (V (Proc.devRef .tc main_v16)) := by
  simp only [opsNum, TRef.binary, TRef.nullary, TRef.quaternary, TRef.ternary, TRef.unary, TRef.toBuf, TRef.ofBuf, cast_eq]
  after_results_simp <;> rfl

set_option maxRecDepth 8192 in
/-- What the step leaves in its result. -/
theorem valHot (V : Valuation τ sig (Elt F)) : after opsHot V (Proc.devRef .tc main_v28)
    = oneHotR (F := F) (V (Proc.devRef .tc main_v16)) := by
  simp only [opsHot, TRef.binary, TRef.nullary, TRef.quaternary, TRef.ternary, TRef.unary, TRef.toBuf, TRef.ofBuf, cast_eq]
  after_results_simp <;> rfl

set_option maxRecDepth 8192 in
/-- What the step leaves in its result. -/
theorem valShare (V : Valuation τ sig (Elt F)) : after opsShare V (Proc.devRef .tc main_v31)
    = shareR (V (Proc.devRef .tc main_v28)) := by
  simp only [opsShare, TRef.binary, TRef.nullary, TRef.quaternary, TRef.ternary, TRef.unary, TRef.toBuf, TRef.ofBuf, cast_eq]
  after_results_simp <;> rfl

set_option maxRecDepth 8192 in
/-- What the step leaves in its result. -/
theorem valPerp (V : Valuation τ sig (Elt F)) : after opsPerp V (Proc.devRef .tc main_v38)
    = perplexityR (V (Proc.devRef .tc main_v31)) := by
  simp only [opsPerp, TRef.binary, TRef.nullary, TRef.quaternary, TRef.ternary, TRef.unary, TRef.toBuf, TRef.ofBuf, cast_eq]
  after_results_simp <;> rfl

set_option maxHeartbeats 1000000 in
/-- The results and the arguments after the whole line. -/
theorem read (V : Valuation τ sig (Elt F)) :
    after ops V (Proc.devRef .tc main_v26) = throughR (rows (V (Proc.devRef .tc main_arg0))) (rowOf (V (Proc.devRef .tc main_arg0)) (V (Proc.devRef .tc main_arg1)))
    ∧ after ops V (Proc.devRef .tc main_v27) = numbersR (numberOf (V (Proc.devRef .tc main_arg0)) (V (Proc.devRef .tc main_arg1)))
    ∧ after ops V (Proc.devRef .tc main_v22) = lossR (rows (V (Proc.devRef .tc main_arg0))) (rowOf (V (Proc.devRef .tc main_arg0)) (V (Proc.devRef .tc main_arg1)))
    ∧ after ops V (Proc.devRef .tc main_v38) = perplexityR (shareR (oneHotR (F := F) (numberOf (V (Proc.devRef .tc main_arg0)) (V (Proc.devRef .tc main_arg1)))))
    ∧ after ops V (Proc.devRef .tc main_arg0) = (V (Proc.devRef .tc main_arg0))
    ∧ after ops V (Proc.devRef .tc main_arg1) = (V (Proc.devRef .tc main_arg1)) := by
  refine ⟨?_, ?_, ?_, ?_, ?_, ?_⟩
  all_goals
    rw [ops]
    repeat rw [after_two]
    repeat first
      | rw [valPerp]
      | rw [valShare]
      | rw [valHot]
      | rw [valNum]
      | rw [valThr]
      | rw [valLoss]
      | rw [valTake]
      | rw [valIn]
      | rw [valWrap]
      | rw [valNear]
      | rw [valDist]
      | rw [valRows]
      | rw [keepPerp _ _ (by decide)]
      | rw [keepShare _ _ (by decide)]
      | rw [keepHot _ _ (by decide)]
      | rw [keepNum _ _ (by decide)]
      | rw [keepThr _ _ (by decide)]
      | rw [keepLoss _ _ (by decide)]
      | rw [keepTake _ _ (by decide)]
      | rw [keepIn _ _ (by decide)]
      | rw [keepWrap _ _ (by decide)]
      | rw [keepNear _ _ (by decide)]
      | rw [keepDist _ _ (by decide)]
      | rw [keepRows _ _ (by decide)]
    try rfl

/-- Every execution ends with each result at its step of the mathematics over the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = throughR (rows (m ((c.tc : Thread nD τ).loc main_arg0))) (rowOf (m ((c.tc : Thread nD τ).loc main_arg0)) (m ((c.tc : Thread nD τ).loc main_arg1)))
      ∧ r.2.mem ((c.tc : Thread nD τ).loc main_v27) = numbersR (numberOf (m ((c.tc : Thread nD τ).loc main_arg0)) (m ((c.tc : Thread nD τ).loc main_arg1)))
      ∧ r.2.mem ((c.tc : Thread nD τ).loc main_v22) = lossR (rows (m ((c.tc : Thread nD τ).loc main_arg0))) (rowOf (m ((c.tc : Thread nD τ).loc main_arg0)) (m ((c.tc : Thread nD τ).loc main_arg1)))
      ∧ r.2.mem ((c.tc : Thread nD τ).loc main_v38) = perplexityR (shareR (oneHotR (F := F) (numberOf (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ?_)
    (run_seq scopedRefs_eq scopedSems_eq defs main (fun _ => ops) main_eq (fun _ => ops_sub) m ρ)
  obtain ⟨h0, h1, h2, h3, h4, h5⟩ := read (launchContents m c)
  exact ⟨(h c main_v26).trans h0, (h c main_v27).trans h1, (h c main_v22).trans h2, (h c main_v38).trans h3,
    (h c main_arg0).trans h4, (h c main_arg1).trans h5⟩

/-- Every execution ends with the arguments unchanged and every semaphore at zero: the program has none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono
    (fun r h => ⟨fun c => ⟨(h c).2.2.2.2.1, (h c).2.2.2.2.2⟩, sem_eq_zero_of_no_sems (by decide) r.2⟩) (run m ρ)

end Cert.ReferenceIdeal.Value

end
-- ==== Proof.Num.lean ====
module

public import Idealize.ShloMosaic.Lib.Pointwise

@[expose] public section

noncomputable section

/-! # The mathematics of the quantiser

The first least distance, the sums against an indicator, and the constants, over the extended reals. -/

namespace Cert.Spec

open Idealize.ShloMosaic

/-! ## The first least distance -/

/-- Some distance is least, and no earlier one is as small. -/
theorem first_exists (d : Fin 1024 → EReal) : ∃ k : Fin 1024, (∀ j, d k ≤ d j) ∧ ∀ j, j < k → d k < d j := by
  obtain ⟨m, -, hm⟩ := Finset.exists_min_image (Finset.univ : Finset (Fin 1024)) d ⟨0, Finset.mem_univ _⟩
  let s : Finset (Fin 1024) := Finset.univ.filter fun j => d j = d m
  have hs : s.Nonempty := ⟨m, Finset.mem_filter.mpr ⟨Finset.mem_univ _, rfl⟩⟩
  refine ⟨s.min' hs, ?_, ?_⟩
  · have h := (Finset.mem_filter.mp (s.min'_mem hs)).2
    intro j; rw [h]; exact hm j (Finset.mem_univ _)
  · have h := (Finset.mem_filter.mp (s.min'_mem hs)).2
    intro j hj
    rw [h]
    refine lt_of_le_of_ne (hm j (Finset.mem_univ _)) fun e => ?_
    exact absurd (s.min'_le j (Finset.mem_filter.mpr ⟨Finset.mem_univ _, e.symm⟩)) (not_le.mpr hj)

/-- The number of the first least distance. -/
def first (d : Fin 1024 → EReal) : Fin 1024 := (first_exists d).choose

/-- It is least. -/
theorem first_le (d : Fin 1024 → EReal) (j : Fin 1024) : d (first d) ≤ d j := (first_exists d).choose_spec.1 j

/-- It is the first. -/
theorem first_lt (d : Fin 1024 → EReal) (j : Fin 1024) (h : j < first d) : d (first d) < d j :=
  (first_exists d).choose_spec.2 j h

/-- A number as an extended real. -/
abbrev real (k : ℕ) : EReal := ((k : ℝ) : EReal)

/-- Numbers compare as they are. -/
theorem real_le {a b : ℕ} (h : a ≤ b) : real a ≤ real b := EReal.coe_le_coe_iff.mpr (Nat.cast_le.mpr h)

/-- Numbers are equal as they are. -/
theorem real_inj {a b : ℕ} : real a = real b ↔ a = b := by
  rw [EReal.coe_eq_coe_iff, Nat.cast_inj]

/-- The minimum of the distances is the first least one. -/
theorem fold_min (d : Fin 1024 → EReal) : Finset.fold min ⊤ d Finset.univ = d (first d) := by
  apply le_antisymm
  · exact (Finset.fold_min_le _).mpr (.inr ⟨first d, Finset.mem_univ _, le_rfl⟩)
  · exact (Finset.le_fold_min _).mpr ⟨le_top, fun j _ => first_le d j⟩

/-- The minimum of the numbers of the least distances is the first one's. -/
theorem fold_cand (d : Fin 1024 → EReal) :
    Finset.fold min ⊤ (fun k : Fin 1024 => if d k = d (first d) then real k.val else real 1024)
      Finset.univ = real (first d).val := by
  refine le_antisymm (α := EReal) ?_ ?_
  · refine (Finset.fold_min_le (β := EReal) _).mpr (.inr ⟨first d, Finset.mem_univ _, ?_⟩)
    rw [if_pos rfl]
  · refine (Finset.le_fold_min (β := EReal) _).mpr ⟨le_top, fun j _ => ?_⟩
    split
    · next h =>
      refine real_le (le_of_not_gt fun hj => ?_)
      exact absurd h (ne_of_gt (first_lt d j hj))
    · exact real_le (first d).isLt.le

/-! ## The comparator of the reference -/

/-- The pairs of a distance and a number, in the order of the distance and then the number. -/
def Below (a b : EReal × BitVec 32) : Prop := a.1 < b.1 ∨ (a.1 = b.1 ∧ a.2.toInt ≤ b.2.toInt)

/-- A pair is below itself. -/
theorem below_refl (a : EReal × BitVec 32) : Below a a := .inr ⟨rfl, le_rfl⟩

/-- The order is transitive. -/
theorem below_trans {a b c : EReal × BitVec 32} (h : Below a b) (h' : Below b c) : Below a c := by
  rcases h with h | ⟨h, k⟩ <;> rcases h' with h' | ⟨h', k'⟩
  · exact .inl (h.trans h')
  · exact .inl (h' ▸ h)
  · exact .inl (h ▸ h')
  · exact .inr ⟨h.trans h', k.trans k'⟩

/-- A fold by a step that returns the lower of two pairs ends at a pair that is in the list or the start, and is below
    all of them. -/
theorem fold_below (f : EReal × BitVec 32 → EReal × BitVec 32 → EReal × BitVec 32)
    (hf : ∀ a b, (f a b = a ∧ Below a b) ∨ (f a b = b ∧ Below b a)) (l : List (EReal × BitVec 32)) :
    ∀ a, (l.foldl f a = a ∨ l.foldl f a ∈ l) ∧ Below (l.foldl f a) a ∧ ∀ p ∈ l, Below (l.foldl f a) p := by
  induction l with
  | nil => exact fun a => ⟨.inl rfl, below_refl a, fun p hp => nomatch hp⟩
  | cons b l ih =>
    intro a
    obtain ⟨h1, h2, h3⟩ := ih (f a b)
    rw [List.foldl_cons]
    rcases hf a b with ⟨e, hb⟩ | ⟨e, hb⟩
    · rw [e] at h1 h2 h3 ⊢
      refine ⟨h1.imp id (List.mem_cons_of_mem _), h2, fun p hp => ?_⟩
      rcases List.mem_cons.mp hp with rfl | hp
      · exact below_trans h2 hb
      · exact h3 p hp
    · rw [e] at h1 h2 h3 ⊢
      refine ⟨.inr (h1.elim (fun h => List.mem_cons.mpr (.inl h)) (List.mem_cons_of_mem _)), below_trans h2 hb, fun p hp => ?_⟩
      rcases List.mem_cons.mp hp with rfl | hp
      · exact h2
      · exact h3 p hp

/-- A small number reads back from its word. -/
theorem word_toInt (k : Fin 1024) : (BitVec.ofNat 32 k.val).toInt = (k.val : ℤ) := by
  have := k.isLt
  show (BitVec.ofNat 32 k.val).toInt = (k.val : ℤ)
  rw [BitVec.toInt_eq_toNat_cond, BitVec.toNat_ofNat, Nat.mod_eq_of_lt (by omega), if_pos (by omega)]

/-- The lowest of the pairs of a distance and its number, with the pair of the greatest distance and 0, carries the
    number of the first least distance. -/
theorem lowest_first (d : Fin 1024 → EReal) (r : EReal × BitVec 32)
    (h : r = (⊤, 0#32) ∨ ∃ k : Fin 1024, r = (d k, BitVec.ofNat 32 k.val))
    (hl : ∀ k : Fin 1024, Below r (d k, BitVec.ofNat 32 k.val)) : r.2 = BitVec.ofNat 32 (first d).val := by
  have hf := hl (first d)
  rcases h with rfl | ⟨k, rfl⟩
  · rcases hf with hf | ⟨hf, -⟩
    · exact absurd hf not_top_lt
    · have h0 : first d = 0 := by
        by_contra hne
        have := first_lt d 0 (Fin.pos_of_ne_zero hne)
        rw [← show (⊤ : EReal) = d (first d) from hf] at this
        exact not_top_lt this
      rw [h0]; rfl
  · show BitVec.ofNat 32 k.val = _
    have hk : k = first d := by
      rcases hf with hf | ⟨hf, hn⟩
      · exact absurd hf (not_lt.mpr (first_le d k))
      · dsimp only at hf hn
        rw [word_toInt, word_toInt] at hn
        rcases lt_trichotomy k (first d) with hlt | heq | hgt
        · exact absurd hf (ne_of_gt (first_lt d k hlt))
        · exact heq
        · exact absurd (Fin.lt_def.mp hgt) (by omega)
    rw [hk]

/-! ## Words and numbers -/

/-- A row number, read as a float. -/
theorem sitofp_word (k : Fin 1024) : FloatOps.sitofp (F := Ideal) .f32 (BitVec.ofNat 32 k.val) = real k.val := by
  show (((BitVec.ofNat 32 k.val).toInt : ℝ) : EReal) = _
  rw [word_toInt]; norm_cast

/-- A row number, read back as a word. -/
theorem fptosi_real (k : Fin 1024) : FloatOps.fptosi (F := Ideal) (φ := .f32) 32 (real k.val) = BitVec.ofNat 32 k.val := by
  have := k.isLt
  show BitVec.ofInt 32 (max _ (min _ (if (0:ℝ) ≤ (k.val : ℝ) then ⌊(k.val : ℝ)⌋ else ⌈(k.val : ℝ)⌉))) = _
  rw [if_pos (Nat.cast_nonneg _), Int.floor_natCast, min_eq_right (by norm_num; omega), max_eq_right (by norm_num)]
  exact BitVec.ofInt_natCast 32 k.val

/-- A bit widened and read as a float is an indicator. -/
theorem sitofp_bit (p : Prop) [Decidable p] :
    FloatOps.sitofp (F := Ideal) .f32 (BitVec.setWidth 32 (BitVec.ofBool (decide p))) = if p then 1 else 0 := by
  by_cases h : p
  · rw [if_pos h, decide_eq_true h]; show (((BitVec.setWidth 32 (BitVec.ofBool true)).toInt : ℝ) : EReal) = 1
    rw [show (BitVec.setWidth 32 (BitVec.ofBool true)).toInt = 1 by decide]; norm_num
  · rw [if_neg h, decide_eq_false h]; show (((BitVec.setWidth 32 (BitVec.ofBool false)).toInt : ℝ) : EReal) = 0
    rw [show (BitVec.setWidth 32 (BitVec.ofBool false)).toInt = 0 by decide]; norm_num

/-- A bit read as a float is an indicator. -/
theorem uitofp_bit (p : Prop) [Decidable p] :
    FloatOps.uitofp (F := Ideal) .f32 (BitVec.ofBool (decide p)) = if p then 1 else 0 := by
  by_cases h : p
  · rw [if_pos h, decide_eq_true h]; show (((BitVec.ofBool true).toNat : ℝ) : EReal) = 1
    rw [show (BitVec.ofBool true).toNat = 1 by decide]; norm_num
  · rw [if_neg h, decide_eq_false h]; show (((BitVec.ofBool false).toNat : ℝ) : EReal) = 0
    rw [show (BitVec.ofBool false).toNat = 0 by decide]; norm_num

/-- The words of two row numbers are equal when the numbers are. -/
theorem word_inj {a b : Fin 1024} : BitVec.ofNat 32 a.val = BitVec.ofNat 32 b.val ↔ a = b := by
  constructor
  · intro h
    have := congrArg BitVec.toInt h
    rw [word_toInt, word_toInt] at this
    exact Fin.ext (by omega)
  · rintro rfl; rfl

/-- A sum against the indicator of one number is that number's term. -/
theorem sum_pick (g : Fin 1024 → EReal) (a : Fin 1024) : ∑ k, g k * (if k = a then 1 else 0) = g a := by
  rw [Finset.sum_eq_single a]
  · rw [if_pos rfl, mul_one]
  · intro b _ hb; rw [if_neg hb, mul_zero]
  · exact fun h => absurd (Finset.mem_univ _) h

/-! ## Constants -/

/-- The greatest value. -/
theorem bits_top : Ideal.ofBits .f32 0x7F800000#32 = ⊤ := by simp [Ideal.ofBits, Ideal.ieee]

/-- A positive power of two, from its word. -/
theorem bits_pow (b : BitVec 32) (ex : ℕ) (h1 : (b.extractLsb' 31 1 == 1#1) = false) (h2 : (b.extractLsb' 23 8).toNat = ex)
    (h3 : (b.extractLsb' 0 23).toNat = 0) (h4 : ex ≠ 255) (h5 : ex ≠ 0) :
    Ideal.ofBits .f32 b = (((2 : ℝ) ^ 23 * (2 : ℝ) ^ ((ex : ℤ) - 127 - 23) : ℝ) : EReal) := by
  show Ideal.ieee 8 23 b = _
  unfold Ideal.ieee
  simp only [Nat.reduceAdd, h1, h2, h3]
  rw [if_neg (by simpa using h4), if_neg h5]
  norm_num

/-- 1024. -/
theorem bits_1024 : Ideal.ofBits .f32 0x44800000#32 = real 1024 := by
  rw [bits_pow _ 137 (by decide) (by decide) (by decide) (by decide) (by decide)]; norm_num [real, zpow_neg]

/-- A quarter. -/
theorem bits_quarter : Ideal.ofBits .f32 0x3E800000#32 = (((1:ℝ) / 4 : ℝ) : EReal) := by
  rw [bits_pow _ 125 (by decide) (by decide) (by decide) (by decide) (by decide)]; norm_num [real, zpow_neg]

/-- 2 to the 22. -/
theorem bits_count : Ideal.ofBits .f32 0x4A800000#32 = ((4194304 : ℝ) : EReal) := by
  rw [bits_pow _ 149 (by decide) (by decide) (by decide) (by decide) (by decide)]; norm_num [real, zpow_neg]

/-- 2 to the −24. -/
theorem bits_scale : Ideal.ofBits .f32 0x33800000#32 = (((1:ℝ) / 16777216 : ℝ) : EReal) := by
  rw [bits_pow _ 103 (by decide) (by decide) (by decide) (by decide) (by decide)]; norm_num [real, zpow_neg]

/-- 2 to the 14. -/
theorem bits_tokens : Ideal.ofBits .f32 0x46800000#32 = ((16384 : ℝ) : EReal) := by
  rw [bits_pow _ 141 (by decide) (by decide) (by decide) (by decide) (by decide)]; norm_num [real, zpow_neg]

/-- 2 to the −14. -/
theorem bits_share : Ideal.ofBits .f32 0x38800000#32 = (((1:ℝ) / 16384 : ℝ) : EReal) := by
  rw [bits_pow _ 113 (by decide) (by decide) (by decide) (by decide) (by decide)]; norm_num [real, zpow_neg]

/-- Dividing by a positive real is multiplying by its reciprocal. -/
theorem div_coe (x : EReal) {r : ℝ} (h : r ≠ 0) : Ideal.div x (r : EReal) = x * ((1 / r : ℝ) : EReal) := by
  unfold Ideal.div
  rw [if_neg (by exact_mod_cast h), one_div, EReal.coe_inv]

/-- The loss of the reference is the kernel's. -/
theorem loss_eq (s : EReal) : Ideal.ofBits .f32 0x3E800000#32 * Ideal.div s (Ideal.ofBits .f32 0x4A800000#32)
    = s * Ideal.ofBits .f32 0x33800000#32 := by
  rw [bits_quarter, bits_count, bits_scale, div_coe s (by norm_num), mul_left_comm, ← EReal.coe_mul]
  norm_num

/-- The share of the reference is the kernel's. -/
theorem share_eq (s : EReal) : Ideal.div s (Ideal.ofBits .f32 0x46800000#32) = s * Ideal.ofBits .f32 0x38800000#32 := by
  rw [bits_tokens, bits_share, div_coe s (by norm_num)]

/-- A finite value and what is left of another gives the other. -/
theorem through_eq (x q : EReal) (h : x ≠ ⊥) (h' : x ≠ ⊤) : x + (q - x) = q := by
  lift x to ℝ using ⟨h', h⟩
  induction q using EReal.rec with
  | bot => rfl
  | top => rfl
  | coe r => norm_cast; ring_nf

/-! ## A token -/

/-- The word of 2. -/
def two : EReal := Ideal.ofBits .f32 0x40000000#32

/-- The distance of a token to each row of a table. -/
def dist (x : Fin 256 → EReal) (e : Fin 1024 → Fin 256 → EReal) (k : Fin 1024) : EReal :=
  ∑ c, x c * x c + ∑ c, e k c * e k c - two * ∑ c, x c * e k c

/-- The number of the row nearest to a token. -/
def num (x : Fin 256 → EReal) (e : Fin 1024 → Fin 256 → EReal) : Fin 1024 := first (dist x e)

/-- The squared distance of a token to its row. -/
def err (x : Fin 256 → EReal) (e : Fin 1024 → Fin 256 → EReal) : EReal :=
  ∑ c, (x c - e (num x e) c) * (x c - e (num x e) c)

/-- Whether a row is a token's. -/
def hit (x : Fin 256 → EReal) (e : Fin 1024 → Fin 256 → EReal) (k : Fin 1024) : EReal := if k = num x e then 1 else 0

/-- The perplexity, from how many tokens each row has. -/
def spread (n : Fin 1024 → EReal) : EReal :=
  Ideal.exp (-∑ k, n k * Ideal.ofBits .f32 0x38800000#32
    * Ideal.log (n k * Ideal.ofBits .f32 0x38800000#32 + Ideal.ofBits .f32 0x2EDBE6FF#32))

/-- The loss, from the sum of the squared distances. -/
def mean (s : EReal) : EReal := s * Ideal.ofBits .f32 0x33800000#32

end Cert.Spec

end
-- ==== Proof.KerStep.lean ====
module

public import proofs.«01_k».proof.Proof.Step
public import proofs.«01_k».proof.Proof.Num
public import Idealize.ShloMosaic.Lib.Pointwise

@[expose] public section

set_option maxRecDepth 16384

noncomputable section

/-! # What one grid point computes, over the extended reals -/

namespace Cert.KernelIdeal.Step

open Idealize.ShloMosaic
open Cert.KernelIdeal.Gen
open Cert.Spec

/-- A block of tokens: each token's features. -/
def toks (x : Vec Ideal S1x256x1024 .f32) (t : Fin 1024) (c : Fin 256) : EReal := x (ix3 0 c t)

/-- The table's rows. -/
def tabs (e : Vec Ideal S1024x256 .f32) (k : Fin 1024) (c : Fin 256) : EReal := e (ix2 k c)

/-! ## The candidates and what comes of them -/

/-- What the candidates are made of: the rows' squared norms, the products of the block with the table, the row
    numbers. -/
structure Fed (e : Fin 1024 → Fin 256 → EReal) (x1 : Vec Ideal S1x256x1024 .f32) (x3 : Vec Ideal S1024x1 .f32)
    (mm : Vec Ideal S1x1024x1024 .f32) (io : Vec Ideal S1024x1024 .f32) : Prop where
  norm : ∀ k, x3 (ix2 k 0) = ∑ c, e k c * e k c
  prod : ∀ k t, mm (ix3 0 k t) = ∑ c, e k c * toks x1 t c
  row : ∀ k t, io (ix2 k t) = real k.val

/-- The kernel's distance is the distance. -/
theorem dist_eq {e : Fin 1024 → Fin 256 → EReal} {x1 : Vec Ideal S1x256x1024 .f32} {x3 : Vec Ideal S1024x1 .f32}
    {mm : Vec Ideal S1x1024x1024 .f32} {io : Vec Ideal S1024x1024 .f32} (h : Fed e x1 x3 mm io) (k t : Fin 1024) :
    ∑ c, x1 (ix3 0 c t) * x1 (ix3 0 c t) + x3 (ix2 k 0) - Ideal.ofBits .f32 0x40000000#32 * mm (ix3 0 k t)
      = dist (toks x1 t) e k := by
  rw [h.norm, h.prod]
  unfold Cert.Spec.dist two
  simp only [toks, mul_comm (e k _) (x1 _)]

/-- A candidate is its row number where the distance is least, 1024 elsewhere. -/
theorem cand_at {e : Fin 1024 → Fin 256 → EReal} {x1 : Vec Ideal S1x256x1024 .f32} {x3 : Vec Ideal S1024x1 .f32}
    {mm : Vec Ideal S1x1024x1024 .f32} {io : Vec Ideal S1024x1024 .f32} (h : Fed e x1 x3 mm io) (k t : Fin 1024) :
    k0_pay9 x3 x1 mm io (ix2 k t)
      = if dist (toks x1 t) e k = dist (toks x1 t) e (num (toks x1 t) e) then real k.val else real 1024 := by
  have h9 : k0_pay9 x3 x1 mm io (ix2 k t)
      = if ∑ c, x1 (ix3 0 c t) * x1 (ix3 0 c t) + x3 (ix2 k 0) - Ideal.ofBits .f32 0x40000000#32 * mm (ix3 0 k t)
          = Finset.fold min (Ideal.ofBits .f32 0x7F800000#32) (fun k' =>
            ∑ c, x1 (ix3 0 c t) * x1 (ix3 0 c t) + x3 (ix2 k' 0) - Ideal.ofBits .f32 0x40000000#32 * mm (ix3 0 k' t)) Finset.univ
        then io (ix2 k t) else Ideal.ofBits .f32 0x44800000#32 := by
    pointwise [k0_pay9, k0_pay8]
  rw [h9]
  simp only [dist_eq h]
  rw [bits_top, bits_1024, fold_min, h.row]
  rfl

/-- What a token's candidates are. -/
def Cands (e : Fin 1024 → Fin 256 → EReal) (x : Fin 1024 → Fin 256 → EReal) (c : Vec Ideal S1024x1024 .f32) : Prop :=
  ∀ k t, c (ix2 k t) = if dist (x t) e k = dist (x t) e (num (x t) e) then real k.val else real 1024

variable {e : Fin 1024 → Fin 256 → EReal} {x : Fin 1024 → Fin 256 → EReal} {c io : Vec Ideal S1024x1024 .f32}

/-- The least candidate of a token is the number of its nearest row. -/
theorem least_at (h : Cands e x c) (t : Fin 1024) : k0_pay10 c (ix2 0 t) = real (num (x t) e).val := by
  have h10 : k0_pay10 c (ix2 0 t) = Finset.fold min (Ideal.ofBits .f32 0x7F800000#32) (fun k => c (ix2 k t)) Finset.univ := by
    pointwise [k0_pay10]
  rw [h10, bits_top]
  simp only [h _ t]
  exact fold_cand _

/-- The number stored for a token. -/
theorem number_at (h : Cands e x c) (t : Fin 1024) : k0_pay11 c (ix3 0 0 t) = BitVec.ofNat 32 (num (x t) e).val := by
  have h11 : k0_pay11 c (ix3 0 0 t) = FloatOps.fptosi (F := Ideal) (φ := .f32) 32 (k0_pay10 c (ix2 0 t)) := by
    pointwise [k0_pay11]
  rw [h11, least_at h]
  exact fptosi_real _

/-- Whether a row is a token's. -/
theorem hit_at (h : Cands e x c) (hr : ∀ k t, io (ix2 k t) = real k.val) (k t : Fin 1024) :
    k0_pay12 io c (ix2 k t) = hit (x t) e k := by
  have h12 : k0_pay12 io c (ix2 k t) = FloatOps.sitofp (F := Ideal) .f32
      (BitVec.setWidth 32 (BitVec.ofBool (decide (io (ix2 k t) = k0_pay10 c (ix2 0 t))))) := by
    pointwise [k0_pay12]
  rw [h12]
  refine (sitofp_bit _).trans ?_
  rw [hr, least_at h]
  simp only [hit, real_inj, Fin.val_inj]

/-- The counts gain the tokens of the block. -/
theorem count_at (h : Cands e x c) (hr : ∀ k t, io (ix2 k t) = real k.val) (n : Vec Ideal S1024x1 .f32) (k : Fin 1024) :
    k0_pay13 io c n (ix2 k 0) = n (ix2 k 0) + ∑ t, hit (x t) e k := by
  have h13 : k0_pay13 io c n (ix2 k 0) = n (ix2 k 0) + ∑ t, k0_pay12 io c (ix2 k t) := by
    pointwise [k0_pay13]
  rw [h13]
  simp only [hit_at h hr]

/-- The vector of a token is its nearest row. -/
theorem vec_at (h : Cands e x c) (hr : ∀ k t, io (ix2 k t) = real k.val) (eb : Vec Ideal S1024x256 .bf16)
    (he : ∀ k ch, eb (ix2 k ch) = e k ch) (ch : Fin 256) (t : Fin 1024) :
    k0_pay14 io c eb (ix2 ch t) = e (num (x t) e) ch := by
  have h14 : k0_pay14 io c eb (ix2 ch t) = ∑ k, eb (ix2 k ch) * k0_pay12 io c (ix2 k t) := by
    pointwise [k0_pay14]
  rw [h14]
  simp only [hit_at h hr, he, hit]
  exact sum_pick _ _

/-- The same in the layout of the result. -/
theorem block_at (h : Cands e x c) (hr : ∀ k t, io (ix2 k t) = real k.val) (eb : Vec Ideal S1024x256 .bf16)
    (he : ∀ k ch, eb (ix2 k ch) = e k ch) (ch : Fin 256) (t : Fin 1024) :
    k0_pay15 io c eb (ix3 0 ch t) = e (num (x t) e) ch := by
  have h15 : k0_pay15 io c eb (ix3 0 ch t) = k0_pay14 io c eb (ix2 ch t) := by
    pointwise [k0_pay15]
  rw [h15, vec_at h hr eb he]

/-- The running loss gains the squared distances of the block. -/
theorem loss_gain (h : Cands e x c) (hr : ∀ k t, io (ix2 k t) = real k.val) (eb : Vec Ideal S1024x256 .bf16)
    (he : ∀ k ch, eb (ix2 k ch) = e k ch) (x1 : Vec Ideal S1x256x1024 .f32) (hx : ∀ t, toks x1 t = x t) (l : EReal) :
    k0_pay16 (k0_pay8 x1) io c eb l = l + ∑ t, err (x t) e := by
  have h16 : ∀ y : Vec Ideal S256x1024 .f32, k0_pay16 y io c eb l = l + ∑ ch, ∑ t, (y (ix2 ch t) - k0_pay14 io c eb (ix2 ch t))
      * (y (ix2 ch t) - k0_pay14 io c eb (ix2 ch t)) := by
    intro y; pointwise [k0_pay16]
  have h8 : ∀ ch t, k0_pay8 x1 (ix2 ch t) = x1 (ix3 0 ch t) := by
    intro ch t; pointwise [k0_pay8]
  rw [h16, Finset.sum_comm]
  simp only [h8, vec_at h hr eb he]
  refine congrArg (l + ·) (Finset.sum_congr rfl fun t _ => ?_)
  rw [← hx t]
  rfl

/-! ## The slots -/

/-- Reading the slot a point reads. -/
theorem slot_read (mm : Vec Ideal S2x1024x1024 .f32) (i : grid0.Coords) (k t : Fin 1024) :
    VecWindow.window mm (k0_off1 i) S1x1024x1024.size (k0_off1_inb i) (ix3 0 k t)
      = mm (ix3 ⟨(i 0).val % 2, Nat.mod_lt _ (by norm_num)⟩ k t) := by
  have ho := off1_eq i
  refine congrArg mm (funext fun a => Fin.ext ?_)
  refine (show _ = k0_off1 i a + 1 * ((ix3 0 k t : S1x1024x1024.Idx) a).val from rfl).trans ?_
  rw [congrFun ho a]
  match a with
  | ⟨0, _⟩ => show (i 0).val % 2 + 1 * 0 = (i 0).val % 2; omega
  | ⟨1, _⟩ => show 0 + 1 * k.val = k.val; omega
  | ⟨2, _⟩ => show 0 + 1 * t.val = t.val; omega

/-- Reading a slot just written. -/
theorem slot_put (mm : Vec Ideal S2x1024x1024 .f32) (off : Fin 3 → ℕ) (b : Fin 2) (ho : off = ![b.val, 0, 0])
    (w : Vec Ideal S1x1024x1024 .f32) (k t : Fin 1024) :
    VecWindow.put (s := S2x1024x1024) mm off S1x1024x1024.size w (ix3 b k t) = w (ix3 0 k t) := by
  subst ho
  have h : ∀ a : Fin 3, (![b.val, 0, 0] : Fin 3 → ℕ) a ≤ ((ix3 b k t : S2x1024x1024.Idx) a).val
      ∧ ((ix3 b k t : S2x1024x1024.Idx) a).val < (![b.val, 0, 0] : Fin 3 → ℕ) a + S1x1024x1024.size a := by
    intro a
    match a with
    | ⟨0, _⟩ => exact ⟨le_rfl, Nat.lt_succ_self _⟩
    | ⟨1, _⟩ => exact ⟨Nat.zero_le _, by show k.val < 0 + 1024; omega⟩
    | ⟨2, _⟩ => exact ⟨Nat.zero_le _, by show t.val < 0 + 1024; omega⟩
  unfold VecWindow.put
  rw [dif_pos h]
  refine congrArg w (funext fun a => Fin.ext ?_)
  match a with
  | ⟨0, _⟩ => show b.val - b.val = 0; omega
  | ⟨1, _⟩ => show k.val - 0 = k.val; omega
  | ⟨2, _⟩ => show t.val - 0 = t.val; omega

/-! ## From point to point -/

/-- What the scratch holds before the body of point `n`, of tokens `X` block by block. -/
structure Holds (e : Fin 1024 → Fin 256 → EReal) (X : ℕ → Fin 1024 → Fin 256 → EReal) (n : ℕ) (s : Scr Ideal) : Prop where
  table : ∀ k c, s.ebf (ix2 k c) = e k c
  row : ∀ k t, s.iot (ix2 k t) = real k.val
  prod : ∀ k t, s.mm (ix3 ⟨n % 2, Nat.mod_lt _ (by norm_num)⟩ k t) = ∑ c, e k c * X n t c
  count : ∀ k, s.cnt (ix2 k 0) = ∑ j ∈ Finset.range n, ∑ t, hit (X j t) e k
  loss : s.lac one = ∑ j ∈ Finset.range n, ∑ t, err (X j t) e

variable {X : ℕ → Fin 1024 → Fin 256 → EReal}

/-- The first point fills the scratch. -/
theorem start_holds (x0 : Vec Ideal S1024x256 .f32) (x1 : Vec Ideal S1x256x1024 .f32) (s : Scr Ideal)
    (h0 : tabs x0 = e) (h1 : toks x1 = X 0) : Holds e X 0 (start x0 x1 s) where
  table k c := by
    rw [← h0]
    show k0_pay5 x0 (ix2 k c) = x0 (ix2 k c)
    pointwise [k0_pay5]
  row k t := by
    refine Eq.trans ?_ (sitofp_word k)
    show k0_pay6 (ix2 k t) = _
    pointwise [k0_pay6]
  prod k t := by
    have h7 : ∀ eb : Vec Ideal S1024x256 .bf16, k0_pay7 eb x1 (ix3 0 k t) = ∑ c, eb (ix2 k c) * x1 (ix3 0 c t) := by
      intro eb; pointwise [k0_pay7]
    have h5 : ∀ c, k0_pay5 x0 (ix2 k c) = x0 (ix2 k c) := by
      intro c; pointwise [k0_pay5]
    rw [← h0, ← h1]
    refine (slot_put s.mm ![0, 0, 0] 0 rfl _ k t).trans ?_
    rw [h7]
    simp only [h5]
    rfl
  count k := by
    rw [Finset.range_zero, Finset.sum_empty]
    show k0_pay4 (ix2 k 0) = 0
    have h4 : k0_pay4 (ix2 k 0) = Ideal.ofBits .f32 0x00000000#32 := by pointwise [k0_pay4]
    rw [h4]; exact Ideal.ofBits_zero _
  loss := by
    rw [Finset.range_zero, Finset.sum_empty]
    exact (show (start x0 x1 s).lac one = Ideal.ofBits .f32 0x00000000#32 from rfl).trans (Ideal.ofBits_zero _)

/-- What the candidates of a point are made of. -/
theorem fed_of {n : ℕ} {s : Scr Ideal} (h : Holds e X n s) (i : grid0.Coords) (hi : (i 0).val = n)
    (x1 : Vec Ideal S1x256x1024 .f32) (x3 : Vec Ideal S1024x1 .f32) (h1 : toks x1 = X n)
    (h3 : ∀ k, x3 (ix2 k 0) = ∑ c, e k c * e k c) :
    Fed e x1 x3 (VecWindow.window s.mm (k0_off1 i) S1x1024x1024.size (k0_off1_inb i)) s.iot where
  norm := h3
  prod k t := by
    subst hi
    rw [slot_read, h.prod, ← h1]
  row := h.row

/-- The candidates of a point. -/
theorem cands_of {n : ℕ} {s : Scr Ideal} (h : Holds e X n s) (i : grid0.Coords) (hi : (i 0).val = n)
    (x1 : Vec Ideal S1x256x1024 .f32) (x3 : Vec Ideal S1024x1 .f32) (h1 : toks x1 = X n)
    (h3 : ∀ k, x3 (ix2 k 0) = ∑ c, e k c * e k c) : Cands e (X n) (cand i x1 x3 s) := fun k t => by
  rw [← h1]
  exact cand_at (fed_of h i hi x1 x3 h1 h3) k t

/-- A point carries the scratch to the next one. -/
theorem next_holds {n : ℕ} {s : Scr Ideal} (h : Holds e X n s) (i : grid0.Coords) (hi : (i 0).val = n)
    (x1 x2 : Vec Ideal S1x256x1024 .f32) (x3 : Vec Ideal S1024x1 .f32) (h1 : toks x1 = X n) (h2 : toks x2 = X (n + 1))
    (h3 : ∀ k, x3 (ix2 k 0) = ∑ c, e k c * e k c) : Holds e X (n + 1) (next i x1 x2 x3 s) where
  table := h.table
  row := h.row
  prod k t := by
    have hp : k0_pay1 s.ebf x2 (ix3 0 k t) = ∑ c, s.ebf (ix2 k c) * x2 (ix3 0 c t) := by
      pointwise [k0_pay1]
    refine (slot_put s.mm (k0_off2 i) ⟨(n + 1) % 2, Nat.mod_lt _ (by norm_num)⟩ (by rw [off2_eq, hi]) _ k t).trans ?_
    rw [hp, ← h2]
    simp only [h.table]
    rfl
  count k := by
    rw [Finset.sum_range_succ, ← h.count k]
    exact count_at (cands_of h i hi x1 x3 h1 h3) h.row s.cnt k
  loss := by
    rw [Finset.sum_range_succ, ← h.loss]
    exact loss_gain (cands_of h i hi x1 x3 h1 h3) h.row s.ebf h.table x1 (fun t => congrFun h1 t) (s.lac one)

/-- The perplexity stored. -/
theorem pp_at (n : Vec Ideal S1024x1 .f32) (g : Fin 1024 → EReal) (h : ∀ k, n (ix2 k 0) = g k) : k0_pay2 n = spread g := by
  have h2 : k0_pay2 n = Ideal.exp (0 - ∑ k, ∑ _u : Fin 1, n (ix2 k 0) * Ideal.ofBits .f32 0x38800000#32
      * Ideal.log (n (ix2 k 0) * Ideal.ofBits .f32 0x38800000#32 + Ideal.ofBits .f32 0x2EDBE6FF#32)) := by
    pointwise [k0_pay2]
    rfl
  rw [h2, spread, sub_eq_add_neg, zero_add]
  simp only [h, Finset.univ_unique, Finset.sum_singleton]

/-- The loss stored. -/
theorem loss_of (l : EReal) : k0_pay3 (F := Ideal) l = mean l := by
  have h3 : k0_pay3 (F := Ideal) l = l * Ideal.ofBits .f32 864026624#32 := by pointwise [k0_pay3]
  exact h3

end Cert.KernelIdeal.Step

end
-- ==== Proof.RefVal.lean ====
module

public import proofs.«01_k».proof.Proof.RefRun
public import proofs.«01_k».proof.Proof.Num
public import Idealize.ShloMosaic.Lib.Pointwise
public import Idealize.ShloMosaic.Lib.Routing.Ops

@[expose] public section

set_option maxRecDepth 16384

noncomputable section

/-! # The results of the reference at an index -/

namespace Cert.ReferenceIdeal.Value

open Idealize.ShloMosaic
open Cert.ReferenceIdeal Cert.ReferenceIdeal.Gen
open Cert.Spec

/-- A token's number splits into its batch and its place in the batch's layout. -/
theorem rows_at (z : FVec Ideal S4x256x4x32x32 .f32) (n : Fin 16384) (c : Fin 256) :
    rows z (ix2 n c) = z (ix5 ⟨n.val / 4096, by omega⟩ c ⟨n.val / 1024 % 4, by omega⟩ ⟨n.val / 32 % 32, by omega⟩
      ⟨n.val % 32, by omega⟩) := by
  pointwise [rows]

/-- The distance of a token to a row of the table. -/
theorem dist_at (x : FVec Ideal S16384x256 .f32) (e : FVec Ideal S1024x256 .f32) (n : Fin 16384) (k : Fin 1024) :
    dist x e (ix2 n k) = ∑ c, x (ix2 n c) * x (ix2 n c) + ∑ c, e (ix2 k c) * e (ix2 k c)
      - Ideal.ofBits .f32 0x40000000#32 * ∑ c, x (ix2 n c) * e (ix2 k c) := by
  pointwise [dist]

/-- The comparator returns the lower of two pairs. -/
theorem comparator_lower (a b : EReal × BitVec 32) :
    (reducer_argmin_f32_i32 (F := Ideal) a b = a ∧ Below a b) ∨ (reducer_argmin_f32_i32 (F := Ideal) a b = b ∧ Below b a) := by
  obtain ⟨a1, a2⟩ := a
  obtain ⟨b1, b2⟩ := b
  have key : reducer_argmin_f32_i32 (F := Ideal) (a1, a2) (b1, b2)
      = (if a1 < b1 then a1 else b1, if a1 < b1 ∨ (a1 = b1 ∧ a2.toInt < b2.toInt) then a2 else b2) := by
    have hs : IntOp.cmpi .slt a2 b2 = BitVec.ofBool (decide (a2.toInt < b2.toInt)) := rfl
    have h1 : FloatOps.cmpf (F := Ideal) (φ := .f32) .olt a1 b1 = BitVec.ofBool (decide (a1 < b1)) := rfl
    have h2 : FloatOps.cmpf (F := Ideal) (φ := .f32) .une a1 a1 = BitVec.ofBool (decide (a1 ≠ a1)) := rfl
    have h3 : FloatOps.cmpf (F := Ideal) (φ := .f32) .oeq a1 b1 = BitVec.ofBool (decide (a1 = b1)) := rfl
    unfold reducer_argmin_f32_i32
    dsimp only
    rw [h1, h2, h3, hs]
    by_cases c1 : a1 < b1 <;> by_cases c3 : a1 = b1 <;> by_cases c4 : a2.toInt < b2.toInt <;> simp [c1, c3, c4, IntOp.ori, IntOp.andi, Scalar.select] <;> simp_all
  rw [key]
  by_cases c1 : a1 < b1
  · exact .inl ⟨by rw [if_pos c1, if_pos (.inl c1)], .inl c1⟩
  · by_cases c3 : a1 = b1
    · subst c3
      by_cases c4 : a2.toInt < b2.toInt
      · exact .inl ⟨by rw [if_neg c1, if_pos (.inr ⟨rfl, c4⟩)], .inr ⟨rfl, c4.le⟩⟩
      · exact .inr ⟨by rw [if_neg c1, if_neg (by rintro (h | h); exacts [c1 h, c4 h.2])], .inr ⟨rfl, not_lt.mp c4⟩⟩
    · exact .inr ⟨by rw [if_neg c1, if_neg (by rintro (h | h); exacts [c1 h, c3 h.1])],
        .inl (lt_of_le_of_ne (not_lt.mp c1) (Ne.symm c3))⟩

/-- What of the matrix of distances is read at a token: its row. -/
theorem drop_at (i : S16384x1024.Idx) (n : Fin 16384) :
    reducesTo_S16384x1024_S16384_d1.drop i = ix1 n ↔ i 0 = n := by
  have hv : (reducesTo_S16384x1024_S16384_d1.drop i 0 : ℕ) = i 0 :=
    Shape.ReducesTo.drop_apply_val_of_eq reducesTo_S16384x1024_S16384_d1 i 0 0
  constructor
  · intro h; rw [h] at hv; exact Fin.ext hv.symm
  · intro h; funext a; match a with | ⟨0, _⟩ => exact Fin.ext (by rw [← h]; exact hv)

/-- What is folded at an index: the pairs of the indices that drop to it. -/
theorem mem_fiber {s t : Shape} {α β : Type} {axes : List (Fin s.rank)} (x : s.Idx → α) (y : s.Idx → β) (h : s.ReducesTo axes t) (j : t.Idx)
    (p : α × β) : p ∈ Host.argReduceFiber x y h j ↔ ∃ i, h.drop i = j ∧ p = (x i, y i) := by
  unfold Host.argReduceFiber
  constructor
  · intro h1
    obtain ⟨i, hi, e⟩ := List.mem_map.mp h1
    exact ⟨_, by simpa using (List.mem_filter.mp hi).2, e.symm⟩
  · rintro ⟨i, hi, rfl⟩
    refine List.mem_map.mpr ⟨s.rowMajor i, List.mem_filter.mpr ⟨List.mem_finRange _, ?_⟩, ?_⟩
    · simpa using hi
    · rw [Equiv.symm_apply_apply]

/-- The lower number of the pairs of a token's row is that of its first least distance. -/
theorem lowest_at (d : S16384x1024.Idx → EReal) (n : Fin 16384) (a : EReal × BitVec 32) (ha : a = (⊤, 0#32)) :
    ((Host.argReduceFiber d (iotaInDim S16384x1024 32 1) reducesTo_S16384x1024_S16384_d1 (ix1 n)).foldl
      (reducer_argmin_f32_i32 (F := Ideal)) a).2 = BitVec.ofNat 32 (first fun k => d (ix2 n k)).val := by
  obtain ⟨h1, h2, h3⟩ := fold_below _ comparator_lower
    (Host.argReduceFiber d (iotaInDim S16384x1024 32 1) reducesTo_S16384x1024_S16384_d1 (ix1 n)) a
  have hm : ∀ k : Fin 1024, (d (ix2 n k), BitVec.ofNat 32 k.val) ∈
      Host.argReduceFiber d (iotaInDim S16384x1024 32 1) reducesTo_S16384x1024_S16384_d1 (ix1 n) := fun k =>
    (mem_fiber _ _ _ _ _).mpr ⟨ix2 n k, (drop_at _ n).mpr rfl, rfl⟩
  refine lowest_first (fun k => d (ix2 n k)) _ ?_ fun k => h3 _ (hm k)
  rcases h1 with h1 | h1
  · left; rw [h1, ha]
  · right
    obtain ⟨i, hi, e⟩ := (mem_fiber _ _ _ _ _).mp h1
    have hd := (drop_at _ n).mp hi
    refine ⟨i 1, ?_⟩
    rw [e, eq_ix2 i, hd]; rfl

/-- Over the extended reals the search for the least is the fold of its comparator. -/
theorem argReduce_fold {s t u : Shape} {axes : List (Fin s.rank)} {β : Type} (f : EReal × β → EReal × β → EReal × β)
    (x : FVec Ideal s .f32) (y : s.Idx → β) (ix : FVec Ideal u .f32) (iy : u.Idx → β) (h : s.ReducesTo axes t) (hu : 0 < u.numel)
    (j : t.Idx) : Host.argReduce (F := Ideal) (φ := .f32) f x y ix iy h hu j
      = (Host.argReduceFiber x y h j).foldl f (ix (Shape.Idx.first hu), iy (Shape.Idx.first hu)) := by
  rw [Ideal.argReduce_eq_reduce2, Host.reduce2_eq_foldl_fiber]

/-- The pair a search starts from. -/
theorem start_pair : ((constant S_ .f32 0x7F800000#32 : FVec Ideal S_ .f32) (Shape.Idx.first h_S_),
    constantI S_ 32 0#32 (Shape.Idx.first h_S_)) = ((⊤ : EReal), 0#32) :=
  congrArg₂ Prod.mk bits_top rfl

/-- The numbers chosen, as they are defined. -/
theorem nearest_eq (d : FVec Ideal S16384x1024 .f32) :
    nearest d = fun j => (Host.argReduce (F := Ideal) (φ := .f32) reducer_argmin_f32_i32 d (iotaInDim S16384x1024 32 1)
      (constant S_ .f32 0x7F800000#32) (constantI S_ 32 0#32) reducesTo_S16384x1024_S16384_d1 h_S_ j).2 := rfl

/-- The number chosen for a token is that of its first least distance. -/
theorem nearest_at (d : FVec Ideal S16384x1024 .f32) (n : Fin 16384) :
    nearest d (ix1 n) = BitVec.ofNat 32 (first fun k => d (ix2 n k)).val :=
  (congrFun ((nearest_eq d).trans (funext fun j => congrArg Prod.snd (argReduce_fold (reducer_argmin_f32_i32 (F := Ideal)) d
    (iotaInDim S16384x1024 32 1) (constant S_ .f32 0x7F800000#32) (constantI S_ 32 0#32) reducesTo_S16384x1024_S16384_d1 h_S_ j)))
    (ix1 n)).trans (lowest_at d n _ start_pair)

/-- A row number is not negative, so it stays. -/
theorem wrapped_at (d : IVec S16384 32) (n : Fin 16384) (k : Fin 1024) (h : d (ix1 n) = BitVec.ofNat 32 k.val) :
    wrapped d (ix2 n 0) = BitVec.ofNat 32 k.val := by
  have e : wrapped d (ix2 n 0) = Scalar.select (IntOp.cmpi .slt (d (ix1 n)) 0#32) (IntOp.addi (d (ix1 n)) 1024#32) (d (ix1 n)) := by
    pointwise [wrapped]
  have hs : IntOp.cmpi .slt (BitVec.ofNat 32 k.val) 0#32 = BitVec.ofBool (decide ((BitVec.ofNat 32 k.val).toInt < (0#32).toInt)) := rfl
  rw [e, h, hs, word_toInt, decide_eq_false (by simp)]
  rfl

/-- A row number is in the table. -/
theorem inRange_at (w : IVec S16384x1 32) (n : Fin 16384) (k : Fin 1024) (h : w (ix2 n 0) = BitVec.ofNat 32 k.val) :
    inRange w (ix1 n) = 1#1 := by
  have e : inRange w (ix1 n) = Finset.fold IntOp.andi (1#1) (fun x : Fin 1 =>
      IntOp.andi (IntOp.cmpi .sge (w (ix2 n x)) 0#32) (IntOp.cmpi .sle (w (ix2 n x)) 1023#32)) Finset.univ := by
    pointwise [inRange]
  have h1 : IntOp.cmpi .sge (BitVec.ofNat 32 k.val) 0#32 = BitVec.ofBool (decide ((0#32).toInt ≤ (BitVec.ofNat 32 k.val).toInt)) := rfl
  have h2 : IntOp.cmpi .sle (BitVec.ofNat 32 k.val) 1023#32
    = BitVec.ofBool (decide ((BitVec.ofNat 32 k.val).toInt ≤ (1023#32).toInt)) := rfl
  have hk : (1023#32).toInt = 1023 := by decide
  have := k.isLt
  rw [e, Finset.univ_unique, Finset.fold_singleton]
  show IntOp.andi (IntOp.andi (IntOp.cmpi .sge (w (ix2 n 0)) 0#32) (IntOp.cmpi .sle (w (ix2 n 0)) 1023#32)) 1#1 = 1#1
  rw [h, h1, h2, word_toInt, hk, decide_eq_true (by simp), decide_eq_true (by omega)]
  rfl

/-- What is taken for a token is the row of its number. -/
theorem taken_at (e : FVec Ideal S1024x256 .f32) (d : IVec S16384 32) (n : Fin 16384) (c : Fin 256) (k : Fin 1024)
    (h : d (ix1 n) = BitVec.ofNat 32 k.val) : taken e d (ix2 n c) = e (ix2 k c) := by
  have hw := wrapped_at d n k h
  have ht : taken e d (ix2 n c) = Scalar.select (inRange (wrapped d) (ix1 n))
      (Host.gather gather_S1024x256_S16384x1_S16384x256_1_0_n_n_0_1_1256 e (wrapped d) (ix2 n c)) (Ideal.ofBits .f32 0x7FC00000#32) := by
    pointwise [taken]
  rw [ht, inRange_at _ n k hw]
  exact Idealize.ShloMosaic.Routing.gather_row _ rfl rfl rfl rfl rfl e (wrapped d) n c k hw (by norm_num)

/-- A token's features. -/
def tok (z : FVec Ideal S4x256x4x32x32 .f32) (n : Fin 16384) (c : Fin 256) : EReal := rows z (ix2 n c)

/-- The table. -/
def tab (e : FVec Ideal S1024x256 .f32) (k : Fin 1024) (c : Fin 256) : EReal := e (ix2 k c)

/-- A token's number is that of the nearest row. -/
theorem numberOf_at (z : FVec Ideal S4x256x4x32x32 .f32) (e : FVec Ideal S1024x256 .f32) (n : Fin 16384) :
    numberOf z e (ix1 n) = BitVec.ofNat 32 (num (tok z n) (tab e)).val := by
  rw [numberOf, nearest_at]
  exact congrArg (fun d => BitVec.ofNat 32 (first d).val) (funext fun k => dist_at _ _ n k)

/-- A token's row is the nearest one. -/
theorem rowOf_at (z : FVec Ideal S4x256x4x32x32 .f32) (e : FVec Ideal S1024x256 .f32) (n : Fin 16384) (c : Fin 256) :
    rowOf z e (ix2 n c) = tab e (num (tok z n) (tab e)) c :=
  taken_at e _ n c _ (numberOf_at z e n)

/-- The loss is the scaled sum of the squared distances. -/
theorem loss_at (z : FVec Ideal S4x256x4x32x32 .f32) (e : FVec Ideal S1024x256 .f32) :
    lossR (rows z) (rowOf z e) ix0 = mean (∑ n, err (tok z n) (tab e)) := by
  have h : lossR (rows z) (rowOf z e) ix0 = Ideal.ofBits .f32 0x3E800000#32 * Ideal.div
      (∑ n, ∑ c, (rows z (ix2 n c) - rowOf z e (ix2 n c)) * (rows z (ix2 n c) - rowOf z e (ix2 n c))) (Ideal.ofBits .f32 0x4A800000#32) := by
    generalize rows z = x
    generalize rowOf z e = q
    pointwise [lossR]
  rw [h, loss_eq, mean]
  simp only [rowOf_at]
  rfl

/-- The quantised features are the nearest rows, of finite inputs. -/
theorem through_at (z : FVec Ideal S4x256x4x32x32 .f32) (e : FVec Ideal S1024x256 .f32) (hz : ∀ i, z i ≠ ⊥ ∧ z i ≠ ⊤)
    (b : Fin 4) (c : Fin 256) (f : Fin 4) (h : Fin 32) (w : Fin 32) :
    throughR (rows z) (rowOf z e) (ix5 b c f h w)
      = tab e (num (tok z ⟨b.val * 4096 + f.val * 1024 + h.val * 32 + w.val, by omega⟩) (tab e)) c := by
  have hh : throughR (rows z) (rowOf z e) (ix5 b c f h w)
      = rows z (ix2 ⟨b.val * 4096 + f.val * 1024 + h.val * 32 + w.val, by omega⟩ c)
        + (rowOf z e (ix2 ⟨b.val * 4096 + f.val * 1024 + h.val * 32 + w.val, by omega⟩ c)
          - rows z (ix2 ⟨b.val * 4096 + f.val * 1024 + h.val * 32 + w.val, by omega⟩ c)) := by
    generalize rows z = x
    generalize rowOf z e = q
    pointwise [throughR]
  rw [hh, through_eq _ _ (by rw [rows_at]; exact (hz _).1) (by rw [rows_at]; exact (hz _).2), rowOf_at]

/-- The numbers, laid out as the tokens are. -/
theorem numbersR_at (d : IVec S16384 32) (b : Fin 4) (f : Fin 4) (h : Fin 32) (w : Fin 32) :
    numbersR d (ix4 b f h w) = d (ix1 ⟨b.val * 4096 + f.val * 1024 + h.val * 32 + w.val, by omega⟩) := by
  pointwise [numbersR]

/-- The numbers at an index. -/
theorem numbers_at (z : FVec Ideal S4x256x4x32x32 .f32) (e : FVec Ideal S1024x256 .f32)
    (b : Fin 4) (f : Fin 4) (h : Fin 32) (w : Fin 32) :
    numbersR (numberOf z e) (ix4 b f h w)
      = BitVec.ofNat 32 (num (tok z ⟨b.val * 4096 + f.val * 1024 + h.val * 32 + w.val, by omega⟩) (tab e)).val :=
  (numbersR_at (numberOf z e) b f h w).trans (numberOf_at z e _)

/-- A row's share, over the tokens whose number it is. -/
theorem share_at (z : FVec Ideal S4x256x4x32x32 .f32) (e : FVec Ideal S1024x256 .f32) (k : Fin 1024) :
    shareR (oneHotR (F := Ideal) (numberOf z e)) (ix1 k) = (∑ n, hit (tok z n) (tab e) k) * Ideal.ofBits .f32 0x38800000#32 := by
  have h1 : ∀ (d : IVec S16384 32) n, oneHotR (F := Ideal) d (ix2 n k)
      = FloatOps.uitofp (F := Ideal) FTy.f32 (IntOp.cmpi .eq (d (ix1 n)) (BitVec.ofNat 32 k.val)) := by
    intro d n; pointwise [oneHotR]
  have h2 : ∀ o : FVec Ideal S16384x1024 .f32, shareR o (ix1 k) = Ideal.div (∑ n, o (ix2 n k)) (Ideal.ofBits .f32 0x46800000#32) := by
    intro o; pointwise [shareR]
  refine (h2 _).trans ((share_eq _).trans (congrArg (· * Ideal.ofBits .f32 0x38800000#32) ?_))
  refine Finset.sum_congr rfl fun n _ => ?_
  rw [h1, numberOf_at]
  refine (uitofp_bit (BitVec.ofNat 32 (num (tok z n) (tab e)).val = BitVec.ofNat 32 k.val)).trans ?_
  simp only [word_inj, hit, eq_comm]

/-- The perplexity, over the tokens of each row. -/
theorem perplexity_at (z : FVec Ideal S4x256x4x32x32 .f32) (e : FVec Ideal S1024x256 .f32) :
    perplexityR (shareR (oneHotR (F := Ideal) (numberOf z e))) ix0 = spread fun k => ∑ n, hit (tok z n) (tab e) k := by
  have h : ∀ p : FVec Ideal S1024 .f32, perplexityR p ix0
      = Ideal.exp (-∑ k, p (ix1 k) * Ideal.log (p (ix1 k) + Ideal.ofBits .f32 0x2EDBE6FF#32)) := by
    intro p; pointwise [perplexityR]
  rw [h, spread]
  simp only [share_at]

end Cert.ReferenceIdeal.Value

end
-- ==== Proof.KerVal.lean ====
module

public import proofs.«01_k».proof.Proof.Frame
public import proofs.«01_k».proof.Proof.KerStep
public import proofs.«01_k».proof.Proof.RefVal
public import Idealize.ShloMosaic.Lib.Pipeline.ValueKit

@[expose] public section

set_option maxRecDepth 16384

noncomputable section

/-! # The results of the kernel, over the extended reals -/

namespace Cert.KernelIdeal.Step

open Idealize.ShloMosaic Idealize.ShloMosaic.TcCoe Idealize.SL Idealize.SL.Sem
open Idealize.ShloMosaic.Pipeline (Dat Cfg Window)
open Cert.KernelIdeal.Gen
open Cert.Spec
open Cert.ReferenceIdeal.Value (tok tab rows rows_at)

variable (m : (ℓ : Loc nD τ sig) → Buf (Elt Ideal) ℓ)

/-- The features as launched. -/
def feat (c : Dev nD) : FVec Ideal S4x256x4x32x32 .f32 := m ((c : Thread nD τ).loc main_arg0)

/-- The table as launched. -/
def code (c : Dev nD) : FVec Ideal S1024x256 .f32 := m ((c : Thread nD τ).loc main_arg1)

/-- The tokens of block `n`; behind the last block comes the last one again. -/
def blockTok (c : Dev nD) (n : ℕ) (t : Fin 1024) : Fin 256 → EReal :=
  tok (feat m c) ⟨min n 15 * 1024 + t.val, by have := Nat.min_le_right n 15; omega⟩

/-! ## What the region finds -/

/-- The features with the three trailing axes merged. -/
theorem entry_feat (c : Dev nD) :
    V m c main_v0 = shapeCast S4x256x4096 (feat m c) shapeCasts_S4x256x4x32x32_S4x256x4096 := rfl

/-- The squared norms of the rows, as a column. -/
theorem entry_norm (c : Dev nD) (k : Fin 1024) :
    (V m c main_v3 : FVec Ideal S1024x1 .f32) (ix2 k 0) = ∑ ch, code m c (ix2 k ch) * code m c (ix2 k ch) := by
  have h : V m c main_v3 = broadcastInDim S1024x1 ![0] bcast_S1024_S1024x1_0 (Host.reduceAdd (mulf (code m c) (code m c)) (constant S_ .f32 0x00000000#32) reducesTo_S1024x256_S1024_d1 h_S_) := rfl
  rw [h]
  pointwise []

/-- The merged features at an index. -/
theorem merged_at (z : FVec Ideal S4x256x4x32x32 .f32) (b : Fin 4) (ch : Fin 256) (s : Fin 4096) :
    shapeCast S4x256x4096 z shapeCasts_S4x256x4x32x32_S4x256x4096 (ix3 b ch s)
      = z (ix5 b ch ⟨s.val / 1024, by omega⟩ ⟨s.val / 32 % 32, by omega⟩ ⟨s.val % 32, by omega⟩) := by
  pointwise

/-- A token's features, where the merged layout has them. -/
theorem merged_tok (z : FVec Ideal S4x256x4x32x32 .f32) (n : ℕ) (hn : n < 16) (ch : Fin 256) (t : Fin 1024) :
    shapeCast S4x256x4096 z shapeCasts_S4x256x4x32x32_S4x256x4096 (ix3 ⟨n / 4, by omega⟩ ch ⟨n % 4 * 1024 + t.val, by omega⟩)
      = tok z ⟨n * 1024 + t.val, by omega⟩ ch := by
  rw [merged_at, tok, rows_at]
  have h0 : (⟨n / 4, by omega⟩ : Fin 4) = ⟨(n * 1024 + t.val) / 4096, by omega⟩ := Fin.ext (by dsimp only; omega)
  have h2 : (⟨(n % 4 * 1024 + t.val) / 1024, by omega⟩ : Fin 4) = ⟨(n * 1024 + t.val) / 1024 % 4, by omega⟩ := Fin.ext (by dsimp only; omega)
  have h3 : (⟨(n % 4 * 1024 + t.val) / 32 % 32, by omega⟩ : Fin 32) = ⟨(n * 1024 + t.val) / 32 % 32, by omega⟩ :=
    Fin.ext (by dsimp only; omega)
  have h4 : (⟨(n % 4 * 1024 + t.val) % 32, by omega⟩ : Fin 32) = ⟨(n * 1024 + t.val) % 32, by omega⟩ := Fin.ext (by dsimp only; omega)
  rw [h0, h2, h3, h4]

/-- Where the blocks of the tokens lie. -/
theorem index_1 : ∀ t : Fin cfg0.N, win0_1.index t = ![t.val / 4, 0, t.val % 4] :=
  (by decide +kernel : ∀ t : Fin grid0.N, win0_1.index t = ![t.val / 4, 0, t.val % 4])
/-- Where the blocks that come next lie. -/
theorem index_2 : ∀ t : Fin cfg0.N, win0_2.index t = ![min (t.val + 1) 15 / 4, 0, min (t.val + 1) 15 % 4] :=
  (by decide +kernel : ∀ t : Fin grid0.N, win0_2.index t = ![min (t.val + 1) 15 / 4, 0, min (t.val + 1) 15 % 4])
/-- The table is its own block. -/
theorem index_0 : ∀ t : Fin cfg0.N, win0_0.index t = ![0, 0] :=
  (by decide +kernel : ∀ t : Fin grid0.N, win0_0.index t = ![0, 0])
/-- The norms are their own block. -/
theorem index_3 : ∀ t : Fin cfg0.N, win0_3.index t = ![0, 0] :=
  (by decide +kernel : ∀ t : Fin grid0.N, win0_3.index t = ![0, 0])
/-- Where the blocks of the vectors lie. -/
theorem index_4 : ∀ t : Fin cfg0.N, win0_4.index t = ![t.val / 4, 0, t.val % 4] :=
  (by decide +kernel : ∀ t : Fin grid0.N, win0_4.index t = ![t.val / 4, 0, t.val % 4])
/-- Where the blocks of the numbers lie. -/
theorem index_5 : ∀ t : Fin cfg0.N, win0_5.index t = ![t.val, 0, 0] :=
  (by decide +kernel : ∀ t : Fin grid0.N, win0_5.index t = ![t.val, 0, 0])

/-- The block of tokens a point loads. -/
theorem block_1 (c : Dev nD) (t : Fin cfg0.N) : toks (iblk m c 1 t) = blockTok m c t.val := by
  have ht : t.val < 16 := lt_of_lt_of_eq t.isLt N_0
  funext s ch
  have h : iblk m c 1 t (ix3 0 ch s)
      = shapeCast S4x256x4096 (feat m c) shapeCasts_S4x256x4x32x32_S4x256x4096
        (ix3 ⟨t.val / 4, by omega⟩ ch ⟨t.val % 4 * 1024 + s.val, by omega⟩) := by
    blk_simp [iblk]
    rw [← entry_feat]
    refine congrArg (V m c main_v0) ?_
    blk_ext [index_1]
  refine h.trans ((merged_tok (feat m c) t.val ht ch s).trans ?_)
  exact congrArg (fun n => tok (feat m c) n ch) (Fin.ext (by dsimp only; omega))

/-- The block of tokens that comes next. -/
theorem block_2 (c : Dev nD) (t : Fin cfg0.N) : toks (iblk m c 2 t) = blockTok m c (t.val + 1) := by
  have ht : min (t.val + 1) 15 < 16 := by omega
  funext s ch
  have h : iblk m c 2 t (ix3 0 ch s)
      = shapeCast S4x256x4096 (feat m c) shapeCasts_S4x256x4x32x32_S4x256x4096
        (ix3 ⟨min (t.val + 1) 15 / 4, by omega⟩ ch ⟨min (t.val + 1) 15 % 4 * 1024 + s.val, by omega⟩) := by
    blk_simp [iblk]
    rw [← entry_feat]
    refine congrArg (V m c main_v0) ?_
    blk_ext [index_2]
  exact h.trans (merged_tok (feat m c) _ ht ch s)

/-- The table a point loads. -/
theorem block_0 (c : Dev nD) (t : Fin cfg0.N) : tabs (iblk m c 0 t) = tab (code m c) := by
  funext k ch
  have h : iblk m c 0 t (ix2 k ch) = V m c main_arg1 (ix2 k ch) := by
    blk_simp [iblk]
    refine congrArg (V m c main_arg1) ?_
    blk_ext [index_0]
  exact h.trans (congrFun (V_main_arg1 m c) _)

/-- The norms a point loads. -/
theorem block_3 (c : Dev nD) (t : Fin cfg0.N) (k : Fin 1024) :
    iblk m c 3 t (ix2 k 0) = ∑ ch, tab (code m c) k ch * tab (code m c) k ch := by
  have h : iblk m c 3 t (ix2 k 0) = V m c main_v3 (ix2 k 0) := by
    blk_simp [iblk]
    refine congrArg (V m c main_v3) ?_
    blk_ext [index_3]
  exact h.trans (entry_norm m c k)

/-! ## The scratch at every point -/

/-- The scratch behind the first conditional of point `t`. -/
def held (c : Dev nD) (t : Fin cfg0.N) : Scr Ideal :=
  entry (grid0.coords t) (iblk m c 0 t) (iblk m c 1 t) (scrAt m c t.val)

/-- The scratch after a point, from the one behind its first conditional. -/
theorem scr_next (c : Dev nD) (t : Fin cfg0.N) :
    scrAt m c (t.val + 1) = next (grid0.coords t) (iblk m c 1 t) (iblk m c 2 t) (iblk m c 3 t) (held m c t) :=
  scrAt_succ m c t

/-- A point carries on. -/
theorem carry (c : Dev nD) (t : Fin cfg0.N) (h : Holds (tab (code m c)) (blockTok m c) t.val (held m c t)) :
    Holds (tab (code m c)) (blockTok m c) (t.val + 1) (scrAt m c (t.val + 1)) := by
  rw [scr_next]
  exact next_holds h (grid0.coords t) (coord_val t) _ _ _ (block_1 m c t) (block_2 m c t) (block_3 m c t)

/-- What the scratch holds at every point. -/
theorem held_holds (c : Dev nD) : ∀ (n : ℕ) (h : n < cfg0.N), Holds (tab (code m c)) (blockTok m c) n (held m c ⟨n, h⟩)
  | 0, h => by
    have h0 : isFirst (grid0.coords ⟨0, h⟩) := (isFirst_iff _).mpr (coord_val ⟨0, h⟩)
    unfold held
    rw [entry_first h0]
    exact start_holds _ _ _ (block_0 m c _) (block_1 m c ⟨0, h⟩)
  | n + 1, h => by
    have h0 : ¬ isFirst (grid0.coords ⟨n + 1, h⟩) := fun hf => by
      have := (isFirst_iff _).mp hf
      rw [coord_val] at this
      exact absurd this (Nat.succ_ne_zero n)
    unfold held
    rw [entry_other h0]
    exact carry m c ⟨n, Nat.lt_of_succ_lt h⟩ (held_holds c n (Nat.lt_of_succ_lt h))

/-- The candidates at a point. -/
theorem cands_at (c : Dev nD) (t : Fin cfg0.N) :
    Cands (tab (code m c)) (blockTok m c t.val) (cand (grid0.coords t) (iblk m c 1 t) (iblk m c 3 t) (held m c t)) :=
  cands_of (held_holds m c t.val t.isLt) (grid0.coords t) (coord_val t) _ _ (block_1 m c t) (block_3 m c t)

/-- The vectors a point stores. -/
theorem vecs_at (c : Dev nD) (t : Fin cfg0.N) (ch : Fin 256) (s : Fin 1024) :
    zqAt m c t (scrAt m c t.val) (ix3 0 ch s) = tab (code m c) (num (blockTok m c t.val s) (tab (code m c))) ch :=
  block_at (cands_at m c t) (held_holds m c t.val t.isLt).row (held m c t).ebf (held_holds m c t.val t.isLt).table ch s

/-- The numbers a point stores. -/
theorem nums_at (c : Dev nD) (t : Fin cfg0.N) (s : Fin 1024) :
    idxAt m c t (scrAt m c t.val) (ix3 0 0 s) = BitVec.ofNat 32 (num (blockTok m c t.val s) (tab (code m c))).val :=
  number_at (cands_at m c t) s

/-- What the scratch holds at the end. -/
theorem end_holds (c : Dev nD) : Holds (tab (code m c)) (blockTok m c) 16 (scrAt m c 16) := by
  have h15 : 15 < cfg0.N := by decide +kernel
  exact carry m c ⟨15, h15⟩ (held_holds m c 15 h15)

end Cert.KernelIdeal.Step

end
-- ==== Proof.Out.lean ====
module

public import proofs.«01_k».proof.Proof.KerVal

@[expose] public section

set_option maxRecDepth 16384

noncomputable section

/-! # The kernel's four results, as the run leaves them -/

namespace Cert.KernelIdeal.Step

open Idealize.ShloMosaic Idealize.ShloMosaic.TcCoe Idealize.SL Idealize.SL.Sem
open Idealize.ShloMosaic.Pipeline (Dat Cfg Window)
open Cert.KernelIdeal.Gen
open Cert.Spec
open Cert.ReferenceIdeal.Value (tok tab rows rows_at)

/-- A sum over the tokens, block by block. -/
theorem sum_blocks (g : Fin 16384 → EReal) :
    ∑ n, g n = ∑ j ∈ Finset.range 16, ∑ t : Fin 1024, g ⟨min j 15 * 1024 + t.val, by have := Nat.min_le_right j 15; omega⟩ := by
  rw [Finset.sum_range, ← Fintype.sum_prod_type', ← Equiv.sum_comp (finProdFinEquiv (m := 16) (n := 1024)) g]
  refine Finset.sum_congr rfl fun p _ => congrArg g (Fin.ext ?_)
  have h := p.1.isLt
  show p.2.val + 1024 * p.1.val = min p.1.val 15 * 1024 + p.2.val
  omega

variable (m : (ℓ : Loc nD τ sig) → Buf (Elt Ideal) ℓ)

/-- The row of the table nearest to token `n`. -/
def near (c : Dev nD) (n : Fin 16384) : Fin 1024 := num (tok (feat m c) n) (tab (code m c))

/-- The vectors over the batch entries and the merged positions. -/
def vecs (c : Dev nD) : FVec Ideal S4x256x4096 .f32 := fun i =>
  (fun (b : Fin 4) (ch : Fin 256) (s : Fin 4096) => tab (code m c) (near m c ⟨b.val * 4096 + s.val, by omega⟩) ch) (i 0) (i 1) (i 2)

/-- The numbers over the blocks. -/
def nums (c : Dev nD) : IVec S16x1x1024 32 := fun i =>
  (fun (n : Fin 16) (s : Fin 1024) => BitVec.ofNat 32 (near m c ⟨n.val * 1024 + s.val, by omega⟩).val) (i 0) (i 2)

/-- The vectors' array after the run. -/
theorem arr_4 (c : Dev nD) : (dats m 0 c).arrAt 4 cfg0.N = vecs m c := by
  refine (dats m 0 c).arrAt_eq_of_covers 4 _ (by decide +kernel) fun t hf y => ?_
  have ht : t.val < 16 := lt_of_lt_of_eq t.isLt N_0
  blk_simp
  rw [after_4]
  suffices H : ∀ (ch : Fin 256) (s : Fin 1024), zqAt m c t (scrAt m c t.val) (ix3 0 ch s) = vecs m c ((win0_4.blk t).view.emb (ix3 0 ch s)) by
    have hy : y = ix3 (0 : Fin 1) (y 1 : Fin 256) (y 2 : Fin 1024) :=
      (eq_ix3 _).trans (congrArg (fun a : Fin 1 => ix3 a (y 1 : Fin 256) (y 2 : Fin 1024)) (Subsingleton.elim _ _))
    rw [hy]
    exact H _ _
  intro ch s
  have hi : (win0_4.blk t).view.emb (ix3 0 ch s) = ix3 (⟨t.val / 4, by omega⟩ : Fin 4) ch (⟨t.val % 4 * 1024 + s.val, by omega⟩ : Fin 4096) := by
    blk_ext [index_4]
  rw [hi]
  refine (vecs_at m c t ch s).trans (congrArg (fun n => tab (code m c) (near m c n) ch) (Fin.ext ?_))
  show min t.val 15 * 1024 + s.val = t.val / 4 * 4096 + (t.val % 4 * 1024 + s.val)
  omega

/-- The numbers' array after the run. -/
theorem arr_5 (c : Dev nD) : (dats m 0 c).arrAt 5 cfg0.N = nums m c := by
  refine (dats m 0 c).arrAt_eq_of_covers 5 _ (by decide +kernel) fun t hf y => ?_
  have ht : t.val < 16 := lt_of_lt_of_eq t.isLt N_0
  blk_simp
  rw [after_5]
  suffices H : ∀ s : Fin 1024, idxAt m c t (scrAt m c t.val) (ix3 0 0 s) = nums m c ((win0_5.blk t).view.emb (ix3 0 0 s)) by
    have hy : y = ix3 (0 : Fin 1) (0 : Fin 1) (y 2 : Fin 1024) :=
      (eq_ix3 _).trans (congr (congrArg (fun a b : Fin 1 => ix3 a b (y 2 : Fin 1024)) (Subsingleton.elim _ _)) (Subsingleton.elim _ _) :)
    rw [hy]
    exact H _
  intro s
  have hi : (win0_5.blk t).view.emb (ix3 0 0 s) = ix3 (⟨t.val, ht⟩ : Fin 16) (0 : Fin 1) s := by
    blk_ext [index_5]
  rw [hi]
  refine (nums_at m c t s).trans (congrArg (fun n => BitVec.ofNat 32 (near m c n).val) (Fin.ext ?_))
  show min t.val 15 * 1024 + s.val = t.val * 1024 + s.val
  omega

/-- The last point. -/
def last : Fin cfg0.N := ⟨15, by decide +kernel⟩

/-- The loss's array after the run. -/
theorem arr_6 (c : Dev nD) : (dats m 0 c).arrAt 6 cfg0.N = fun _ => mean (∑ n, err (tok (feat m c) n) (tab (code m c))) := by
  refine (dats m 0 c).arrAt_eq_of_after_last 6 last (by decide +kernel) _ fun j => ?_
  blk_simp
  rw [after_6]
  rw [sum_blocks]
  exact (loss_of _).trans (congrArg mean (end_holds m c).loss)

/-- The perplexity's array after the run. -/
theorem arr_7 (c : Dev nD) : (dats m 0 c).arrAt 7 cfg0.N = fun _ => spread fun k => ∑ n, hit (tok (feat m c) n) (tab (code m c)) k := by
  refine (dats m 0 c).arrAt_eq_of_after_last 7 last (by decide +kernel) _ fun j => ?_
  blk_simp
  rw [after_7]
  simp only [sum_blocks]
  exact pp_at _ _ (end_holds m c).count

/-! ## The lines after the region -/

section Tail

variable (W : Valuation τ sig (Elt Ideal))

/-- The vectors' array, its last axis split. -/
theorem tail_5 : StableHlo.after [hostOps1].flatten W (Proc.devRef .tc main_v5)
    = shapeCast S4x256x4x32x32 (W (Proc.devRef .tc main_v4_0)) shapeCasts_S4x256x4096_S4x256x4x32x32 := rfl
/-- The numbers' array, its axes laid out as the tokens are. -/
theorem tail_6 : StableHlo.after [hostOps1].flatten W (Proc.devRef .tc main_v6)
    = shapeCast S4x4x32x32 (W (Proc.devRef .tc main_v4_1)) shapeCasts_S16x1x1024_S4x4x32x32 := rfl
/-- The loss, a scalar. -/
theorem tail_7 : StableHlo.after [hostOps1].flatten W (Proc.devRef .tc main_v7)
    = shapeCast S_ (W (Proc.devRef .tc main_v4_2)) shapeCasts_S1x1_S_ := rfl
/-- The perplexity, a scalar. -/
theorem tail_8 : StableHlo.after [hostOps1].flatten W (Proc.devRef .tc main_v8)
    = shapeCast S_ (W (Proc.devRef .tc main_v4_3)) shapeCasts_S1x1_S_ := rfl

end Tail

/-- Every buffer as the region leaves it. -/
def left (c : Dev nD) : Valuation τ sig (Elt Ideal) :=
  Pipeline.withArrays spec0 c (V0 m c) fun w => (dats m 0 c).arrAt w cfg0.N

/-- A window's array as the region leaves it. -/
theorem left_arr (c : Dev nD) (w : Fin cfg0.W) :
    left m c (Proc.devRef .tc (Pipeline.arrRef spec0 w)) = (dats m 0 c).arrAt w cfg0.N :=
  (dats m 0 c).withArrays_arrAt sharedIn0 (V0 m c) (A_eq m c) w

/-- An array of one element, as a scalar. -/
theorem scalar_split (a : EReal) (x : FVec Ideal S1x1 .f32) (hx : x = fun _ => a) :
    (shapeCast S_ x shapeCasts_S1x1_S_ : FVec Ideal S_ .f32) = fun _ => a := by
  subst hx
  rfl

/-- What the run leaves: the vectors, the numbers, the loss, the perplexity, and the arguments as launched. -/
theorem run_values (ρ : Dev nD → PrngReg) :
    θ_run defs (onTc (τ := τ) (main (F := Ideal))) ⟨m, fun _ => 0, ρ⟩ fun r => ∀ c : Dev nD,
      r.2.mem ((c.tc : Thread nD τ).loc main_v5) = shapeCast S4x256x4x32x32 (vecs m c) shapeCasts_S4x256x4096_S4x256x4x32x32
      ∧ r.2.mem ((c.tc : Thread nD τ).loc main_v6) = shapeCast S4x4x32x32 (nums m c) shapeCasts_S16x1x1024_S4x4x32x32
      ∧ r.2.mem ((c.tc : Thread nD τ).loc main_v7) = (fun _ => mean (∑ n, err (tok (feat m c) n) (tab (code m c))))
      ∧ r.2.mem ((c.tc : Thread nD τ).loc main_v8) = (fun _ => spread fun k => ∑ n, hit (tok (feat m c) n) (tab (code m c)) k)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (θ_run_and (run_main m ρ) (frame m ρ))
  have h5 := (h.1 c).2 main_v5 (Pipeline.mem_restRefs_of main_v5 (by decide) (by decide))
  have h6 := (h.1 c).2 main_v6 (Pipeline.mem_restRefs_of main_v6 (by decide) (by decide))
  have h7 := (h.1 c).2 main_v7 (Pipeline.mem_restRefs_of main_v7 (by decide) (by decide))
  have h8 := (h.1 c).2 main_v8 (Pipeline.mem_restRefs_of main_v8 (by decide) (by decide))
  refine ⟨h5.trans ((tail_5 (left m c)).trans ?_), h6.trans ((tail_6 (left m c)).trans ?_),
    h7.trans ((tail_7 (left m c)).trans ?_), h8.trans ((tail_8 (left m c)).trans ?_), h.2.1 c⟩
  · exact congrArg (fun x : FVec Ideal S4x256x4096 .f32 => shapeCast S4x256x4x32x32 x shapeCasts_S4x256x4096_S4x256x4x32x32)
      ((left_arr m c 4).trans (arr_4 m c))
  · exact congrArg (fun x : IVec S16x1x1024 32 => shapeCast S4x4x32x32 x shapeCasts_S16x1x1024_S4x4x32x32)
      ((left_arr m c 5).trans (arr_5 m c))
  · exact scalar_split _ _ ((left_arr m c 6).trans (arr_6 m c))
  · exact scalar_split _ _ ((left_arr m c 7).trans (arr_7 m c))

/-- The vectors with the positions apart. -/
theorem vecs_split (x : FVec Ideal S4x256x4096 .f32) (b : Fin 4) (ch : Fin 256) (f : Fin 4) (h : Fin 32) (w : Fin 32) :
    shapeCast S4x256x4x32x32 x shapeCasts_S4x256x4096_S4x256x4x32x32 (ix5 b ch f h w)
      = x (ix3 b ch ⟨f.val * 1024 + h.val * 32 + w.val, by omega⟩) := by
  pointwise

/-- The numbers with the positions apart. -/
theorem nums_split (x : IVec S16x1x1024 32) (b : Fin 4) (f : Fin 4) (h : Fin 32) (w : Fin 32) :
    shapeCast S4x4x32x32 x shapeCasts_S16x1x1024_S4x4x32x32 (ix4 b f h w)
      = x (ix3 ⟨b.val * 4 + f.val, by omega⟩ 0 ⟨h.val * 32 + w.val, by omega⟩) := by
  pointwise

/-- The vectors at an index. -/
theorem vecs_value (c : Dev nD) (b : Fin 4) (ch : Fin 256) (f : Fin 4) (h : Fin 32) (w : Fin 32) :
    shapeCast S4x256x4x32x32 (vecs m c) shapeCasts_S4x256x4096_S4x256x4x32x32 (ix5 b ch f h w)
      = tab (code m c) (near m c ⟨b.val * 4096 + f.val * 1024 + h.val * 32 + w.val, by omega⟩) ch := by
  refine (vecs_split _ b ch f h w).trans (congrArg (fun n => tab (code m c) (near m c n) ch) (Fin.ext ?_))
  show b.val * 4096 + (f.val * 1024 + h.val * 32 + w.val) = b.val * 4096 + f.val * 1024 + h.val * 32 + w.val
  omega

/-- The numbers at an index. -/
theorem nums_value (c : Dev nD) (b : Fin 4) (f : Fin 4) (h : Fin 32) (w : Fin 32) :
    shapeCast S4x4x32x32 (nums m c) shapeCasts_S16x1x1024_S4x4x32x32 (ix4 b f h w)
      = BitVec.ofNat 32 (near m c ⟨b.val * 4096 + f.val * 1024 + h.val * 32 + w.val, by omega⟩).val := by
  refine (nums_split _ b f h w).trans (congrArg (fun n => BitVec.ofNat 32 (near m c n).val) (Fin.ext ?_))
  show (b.val * 4 + f.val) * 1024 + (h.val * 32 + w.val) = b.val * 4096 + f.val * 1024 + h.val * 32 + w.val
  omega

end Cert.KernelIdeal.Step

end
-- ==== Proof.Equal.lean ====
module

public import proofs.«01_k».proof.Defs
public import proofs.«01_k».proof.Proof.Out
public import proofs.«01_k».proof.Proof.Gen.Pre_z_finite
public import Idealize.ShloMosaic.Lib.ReduceAll
public import Idealize.ShloMosaic.Lib.Pointwise

@[expose] public section

set_option maxRecDepth 16384

noncomputable section

/-! # The kernel's results are the reference's -/

namespace Cert.Equal

open Idealize.ShloMosaic Idealize.ShloMosaic.TcCoe Idealize.SL Idealize.SL.Sem
open Cert.KernelIdeal.Step (feat code near vecs nums)
open Cert.ReferenceIdeal.Value
open Cert.Spec

/-- A value below infinity in absolute value is no infinity. -/
theorem finite_of_olt (x : EReal) (h : Ideal.cmp .olt (max x (-x)) (Ideal.ofBits .f32 0x7F800000#32) = 1#1) : x ≠ ⊥ ∧ x ≠ ⊤ := by
  have htop : Ideal.ofBits .f32 0x7F800000#32 = ⊤ := by simp [Ideal.ofBits, Ideal.ieee]
  rw [htop] at h
  have hl : max x (-x) < ⊤ := (Ideal.cmp_olt_eq_one _ _).mp h
  rw [max_lt_iff] at hl
  exact ⟨fun e => by rw [e] at hl; simp at hl, fun e => by rw [e] at hl; simp at hl⟩

/-- The precondition says that every feature is finite. -/
theorem finite_of_pre (z : FVec Ideal Cert.Pre_z_finite.S4x256x4x32x32 .f32) (e : FVec Ideal Cert.Pre_z_finite.S1024x256 .f32)
    (h : Cert.Pre_z_finite.fn (F := Ideal) z e = fun _ => 1#1) (i : Cert.Pre_z_finite.S4x256x4x32x32.Idx) : z i ≠ ⊥ ∧ z i ≠ ⊤ :=
  haveI : Subsingleton Cert.Pre_z_finite.S_.Idx := ⟨fun a b => funext fun k => k.elim0⟩
  finite_of_olt (z i) (Host.reduce_andi_all _ _ _ _ ix0 (congrFun h ix0) i)

variable (m : (ℓ : Loc Cert.KernelIdeal.nD Cert.KernelIdeal.τ Cert.KernelIdeal.sig) → Buf (Elt Ideal) ℓ)

/-- The quantised features agree, the features being finite. -/
theorem vecs_eq (c : Dev Cert.KernelIdeal.nD) (hz : ∀ i, feat m c i ≠ ⊥ ∧ feat m c i ≠ ⊤) :
    throughR (rows (feat m c)) (rowOf (feat m c) (code m c))
      = shapeCast Cert.KernelIdeal.S4x256x4x32x32 (vecs m c) Cert.KernelIdeal.Gen.shapeCasts_S4x256x4096_S4x256x4x32x32 := by
  funext i
  rw [eq_ix5 i]
  exact (through_at _ _ hz (i 0) (i 1) (i 2) (i 3) (i 4)).trans (Cert.KernelIdeal.Step.vecs_value m c (i 0) (i 1) (i 2) (i 3) (i 4)).symm

/-- The numbers agree. -/
theorem nums_eq (c : Dev Cert.KernelIdeal.nD) :
    numbersR (numberOf (feat m c) (code m c))
      = shapeCast Cert.KernelIdeal.S4x4x32x32 (nums m c) Cert.KernelIdeal.Gen.shapeCasts_S16x1x1024_S4x4x32x32 := by
  funext i
  rw [eq_ix4 i]
  exact (numbers_at _ _ (i 0) (i 1) (i 2) (i 3)).trans (Cert.KernelIdeal.Step.nums_value m c (i 0) (i 1) (i 2) (i 3)).symm

/-- The losses agree. -/
theorem loss_eq (c : Dev Cert.KernelIdeal.nD) :
    lossR (rows (feat m c)) (rowOf (feat m c) (code m c)) = fun _ => mean (∑ n, err (tok (feat m c) n) (tab (code m c))) := by
  funext i
  rw [show i = ix0 from funext fun k => k.elim0]
  exact loss_at _ _

/-- The perplexities agree. -/
theorem perplexity_eq (c : Dev Cert.KernelIdeal.nD) :
    perplexityR (shareR (oneHotR (F := Ideal) (numberOf (feat m c) (code m c))))
      = fun _ => spread fun k => ∑ n, hit (tok (feat m c) n) (tab (code m c)) k := by
  funext i
  rw [show i = ix0 from funext fun k => k.elim0]
  exact perplexity_at _ _

/-- From memories with the same arguments and finite features, both programs end with the same four results. -/
theorem algebraic : Cert.algebraic_KernelIdeal_ReferenceIdeal_pre_z_finite := by
  intro m g m' g' hpre hagree
  refine ⟨_, _, _, _, Cert.KernelIdeal.Step.run_values m g, (θ_run Cert.ReferenceIdeal.defs _ _).mono (fun r h c => ?_)
    (Cert.ReferenceIdeal.Value.run (F := Ideal) m' g')⟩
  obtain ⟨h0, h1, h2, h3, h4, h5⟩ := h c
  obtain ⟨ha, hb⟩ := hagree c
  rw [ha, hb] at h0 h1 h2 h3
  have hz : ∀ i, feat m c i ≠ ⊥ ∧ feat m c i ≠ ⊤ := finite_of_pre _ _ (hpre c)
  exact ⟨h0.trans (vecs_eq m c hz), h1.trans (nums_eq m c), h2.trans (loss_eq m c), h3.trans (perplexity_eq m c), h4, h5⟩

end Cert.Equal

end
-- ==== Proof.lean ====
module

public import proofs.«01_k».proof.Defs
public import proofs.«01_k».proof.Proof.Same
public import proofs.«01_k».proof.Proof.Frame
public import proofs.«01_k».proof.Proof.Gen.ReferenceIdeal
public import proofs.«01_k».proof.Proof.RefRun
public import proofs.«01_k».proof.Proof.Equal
public import proofs.«01_k».proof.Proof.Gen.Pre_z_finite

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts, Cert.Pre_z_finite.Gen.facts,
    fun m g _ => Cert.Same.frame m g,
    fun m g _ => Cert.KernelIdeal.Step.frame m g,
    fun m g _ => Cert.KernelIdeal.Step.frame m g,
    fun m g _ => Cert.ReferenceIdeal.Value.frame m g,
    fun m g _ => Cert.ReferenceIdeal.Value.frame m g,
    trivial,
    Cert.Equal.algebraic⟩

end Cert.Proof

end
